-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v3_1)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v7)) (v5 : (c : Dev Cert.KernelIdeal.nD) → Buf (Elt Ideal) ((c.tc : Thread Cert.KernelIdeal.nD Cert.KernelIdeal.τ).loc Cert.KernelIdeal.main_v8)) (v6 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_v8) = v5 c
          ∧ r.2.mem ((c.tc : Thread Cert.KernelIdeal.nD Cert.KernelIdeal.τ).loc Cert.KernelIdeal.main_v9) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x4096 : Shape := ⟨3, ![2, 512, 4096]⟩
abbrev S4096x11008 : Shape := ⟨2, ![4096, 11008]⟩
abbrev S4096 : Shape := ⟨1, ![4096]⟩
abbrev S1024x4096 : Shape := ⟨2, ![1024, 4096]⟩
abbrev S1x4096 : Shape := ⟨2, ![1, 4096]⟩
abbrev S4096x128 : Shape := ⟨2, ![4096, 128]⟩
abbrev S8x128 : Shape := ⟨2, ![8, 128]⟩
abbrev S1024x128 : Shape := ⟨2, ![1024, 128]⟩
abbrev S64x4096 : Shape := ⟨2, ![64, 4096]⟩
abbrev S1x128 : Shape := ⟨2, ![1, 128]⟩
abbrev S128x128 : Shape := ⟨2, ![128, 128]⟩
abbrev S64 : Shape := ⟨1, ![64]⟩
abbrev S64x1 : Shape := ⟨2, ![64, 1]⟩
abbrev S64x128 : Shape := ⟨2, ![64, 128]⟩
abbrev S1024x11008 : Shape := ⟨2, ![1024, 11008]⟩
abbrev S1x11008 : Shape := ⟨2, ![1, 11008]⟩
abbrev S4096x256 : Shape := ⟨2, ![4096, 256]⟩
abbrev S1024x256 : Shape := ⟨2, ![1024, 256]⟩
abbrev S1x256 : Shape := ⟨2, ![1, 256]⟩
abbrev S8x256 : Shape := ⟨2, ![8, 256]⟩
abbrev S256x128 : Shape := ⟨2, ![256, 128]⟩
abbrev S256x256 : Shape := ⟨2, ![256, 256]⟩
abbrev S32x8x256 : Shape := ⟨3, ![32, 8, 256]⟩
abbrev S256 : Shape := ⟨1, ![256]⟩
abbrev S1024x1 : Shape := ⟨2, ![1024, 1]⟩
abbrev S2x512x11008 : Shape := ⟨3, ![2, 512, 11008]⟩
abbrev S11008 : Shape := ⟨1, ![11008]⟩
abbrev S2x512 : Shape := ⟨2, ![2, 512]⟩

abbrev nBuf : Space → Nat
  | .hbm => 22
  | .vmem => 23
  | .smem => 0
  | _ => 0

abbrev bufTy : (tb : Table) → Fin (tcTables nBuf tb) → BufTy
  | .hbm, ⟨0, _⟩ => ⟨S2x512x4096, .bf16⟩
  | .hbm, ⟨1, _⟩ => ⟨S4096x11008, .bf16⟩
  | .hbm, ⟨2, _⟩ => ⟨S4096, .f32⟩
  | .hbm, ⟨3, _⟩ => ⟨S1024x4096, .bf16⟩
  | .hbm, ⟨4, _⟩ => ⟨S1x4096, .f32⟩
  | .hbm, ⟨5, _⟩ => ⟨S1x4096, .f32⟩
  | .hbm, ⟨6, _⟩ => ⟨S4096x128, .f32⟩
  | .hbm, ⟨7, _⟩ => ⟨S1024x4096, .i8⟩
  | .hbm, ⟨8, _⟩ => ⟨S1024x4096, .bf16⟩
  | .hbm, ⟨9, _⟩ => ⟨S8x128, .f32⟩
  | .hbm, ⟨10, _⟩ => ⟨S8x128, .i32⟩
  | .hbm, ⟨11, _⟩ => ⟨S1024x128, .f32⟩
  | .hbm, ⟨12, _⟩ => ⟨S1024x128, .f32⟩
  | .hbm, ⟨13, _⟩ => ⟨S1024x11008, .bf16⟩
  | .hbm, ⟨14, _⟩ => ⟨S4096x11008, .i8⟩
  | .hbm, ⟨15, _⟩ => ⟨S1x11008, .f32⟩
  | .hbm, ⟨16, _⟩ => ⟨S2x512x11008, .bf16⟩
  | .hbm, ⟨17, _⟩ => ⟨S4096, .f32⟩
  | .hbm, ⟨18, _⟩ => ⟨S11008, .f32⟩
  | .hbm, ⟨19, _⟩ => ⟨S2x512x4096, .i8⟩
  | .hbm, ⟨20, _⟩ => ⟨S2x512, .f32⟩
  | .hbm, ⟨21, _⟩ => ⟨S2x512, .i32⟩
  | .local _ .vmem, ⟨0, _⟩ => ⟨S1024x4096, .bf16⟩
  | .local _ .vmem, ⟨1, _⟩ => ⟨S1x4096, .f32⟩
  | .local _ .vmem, ⟨2, _⟩ => ⟨S1x4096, .f32⟩
  | .local _ .vmem, ⟨3, _⟩ => ⟨S4096x128, .f32⟩
  | .local _ .vmem, ⟨4, _⟩ => ⟨S1024x4096, .i8⟩
  | .local _ .vmem, ⟨5, _⟩ => ⟨S1024x4096, .bf16⟩
  | .local _ .vmem, ⟨6, _⟩ => ⟨S8x128, .f32⟩
  | .local _ .vmem, ⟨7, _⟩ => ⟨S8x128, .i32⟩
  | .local _ .vmem, ⟨8, _⟩ => ⟨S1024x128, .f32⟩
  | .local _ .vmem, ⟨9, _⟩ => ⟨S1024x128, .f32⟩
  | .local _ .vmem, ⟨10, _⟩ => ⟨S4096x256, .bf16⟩
  | .local _ .vmem, ⟨11, _⟩ => ⟨S4096x256, .bf16⟩
  | .local _ .vmem, ⟨12, _⟩ => ⟨S4096x128, .f32⟩
  | .local _ .vmem, ⟨13, _⟩ => ⟨S1024x4096, .bf16⟩
  | .local _ .vmem, ⟨14, _⟩ => ⟨S1024x128, .f32⟩
  | .local _ .vmem, ⟨15, _⟩ => ⟨S1024x128, .f32⟩
  | .local _ .vmem, ⟨16, _⟩ => ⟨S1024x256, .bf16⟩
  | .local _ .vmem, ⟨17, _⟩ => ⟨S1024x256, .bf16⟩
  | .local _ .vmem, ⟨18, _⟩ => ⟨S4096x256, .i8⟩
  | .local _ .vmem, ⟨19, _⟩ => ⟨S4096x256, .i8⟩
  | .local _ .vmem, ⟨20, _⟩ => ⟨S1x256, .f32⟩
  | .local _ .vmem, ⟨21, _⟩ => ⟨S1x256, .f32⟩
  | .local _ .vmem, ⟨22, _⟩ => ⟨S4096x256, .bf16⟩
  | _, _ => ⟨S2x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_scratch0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c64_i32 : BitVec 32 := 64#32
  let v265 : BitVec 32 := Scalar.muli arg10 c64_i32
  let v266 : Index := Scalar.indexCast v265
  let c0_101 : Index := 0#32
  ![v266.toNat, 0]
@[reducible] def k0_t2_loop : Scf.Loop 32 :=
  let c0_i32_40 : BitVec 32 := 0#32
  let c16_i32_41 : BitVec 32 := 16#32
  let v176 : BitVec 32 := Scalar.addi c0_i32_40 c16_i32_41
  let c1_i32_42 : BitVec 32 := 1#32
  ⟨c0_i32_40, v176, c1_i32_42⟩
def k0_mult1 (k0_t2 : Fin k0_t2_loop.trips) : BitVec 32 :=
  let c0_i32_40 : BitVec 32 := 0#32
  let c1_i32_42 : BitVec 32 := 1#32
  let arg10 : BitVec 32 := Scf.iv c0_i32_40 c1_i32_42 k0_t2
  let c64_i32 : BitVec 32 := 64#32
  let v265 : BitVec 32 := Scalar.muli arg10 c64_i32
  v265
def k0_off2 (k0_t2 : Fin k0_t2_loop.trips) : Fin 2 → Nat :=
  let c0_i32_40 : BitVec 32 := 0#32
  let c1_i32_42 : BitVec 32 := 1#32
  let arg10 : BitVec 32 := Scf.iv c0_i32_40 c1_i32_42 k0_t2
  let c64_i32 : BitVec 32 := 64#32
  let v265 : BitVec 32 := Scalar.muli arg10 c64_i32
  let v266 : BitVec 32 := v265
  let v267 : Index := Scalar.indexCast v266
  let c0_101 : Index := 0#32
  ![v267.toNat, 0]
def k0_off3 (k0_t2 : Fin k0_t2_loop.trips) : Fin 2 → Nat :=
  let c0_i32_40 : BitVec 32 := 0#32
  let c1_i32_42 : BitVec 32 := 1#32
  let arg10 : BitVec 32 := Scf.iv c0_i32_40 c1_i32_42 k0_t2
  let c64_i32 : BitVec 32 := 64#32
  let v265 : BitVec 32 := Scalar.muli arg10 c64_i32
  let v266 : BitVec 32 := v265
  let v315 : Index := Scalar.indexCast v266
  let c0_117 : Index := 0#32
  ![v315.toNat, 0]
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x4096 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨1, ![43], ![false]⟩

@[reducible] def k1_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k1_mult1 (k1_t1 : Fin k1_t1_loop.trips) : BitVec 32 :=
  let c0_i32 : BitVec 32 := 0#32
  let c1_i32 : BitVec 32 := 1#32
  let arg10 : BitVec 32 := Scf.iv c0_i32 c1_i32 k1_t1
  let c256_i32 : BitVec 32 := 256#32
  let v35 : BitVec 32 := Scalar.muli arg10 c256_i32
  v35
def k1_off1 (k1_t1 : Fin k1_t1_loop.trips) : Fin 2 → Nat :=
  let c0_i32 : BitVec 32 := 0#32
  let c1_i32 : BitVec 32 := 1#32
  let arg10 : BitVec 32 := Scf.iv c0_i32 c1_i32 k1_t1
  let c256_i32 : BitVec 32 := 256#32
  let v35 : BitVec 32 := Scalar.muli arg10 c256_i32
  let v36 : BitVec 32 := v35
  let v37 : Index := Scalar.indexCast v36
  let c0_23 : Index := 0#32
  ![v37.toNat, 0]
def k1_off2 (k1_t1 : Fin k1_t1_loop.trips) : Fin 2 → Nat :=
  let c0_i32 : BitVec 32 := 0#32
  let c1_i32 : BitVec 32 := 1#32
  let arg10 : BitVec 32 := Scf.iv c0_i32 c1_i32 k1_t1
  let c256_i32 : BitVec 32 := 256#32
  let v35 : BitVec 32 := Scalar.muli arg10 c256_i32
  let v36 : BitVec 32 := v35
  let v40 : Index := Scalar.indexCast v36
  let c0_24 : Index := 0#32
  ![v40.toNat, 0]
@[reducible] def k1_t2_loop : Scf.Loop 32 :=
  let c0_i32_7 : BitVec 32 := 0#32
  let c16_i32_8 : BitVec 32 := 16#32
  let v13 : BitVec 32 := Scalar.addi c0_i32_7 c16_i32_8
  let c1_i32_9 : BitVec 32 := 1#32
  ⟨c0_i32_7, v13, c1_i32_9⟩
def k1_mult2 (k1_t2 : Fin k1_t2_loop.trips) : BitVec 32 :=
  let c0_i32_7 : BitVec 32 := 0#32
  let c1_i32_9 : BitVec 32 := 1#32
  let arg10 : BitVec 32 := Scf.iv c0_i32_7 c1_i32_9 k1_t2
  let c256_i32 : BitVec 32 := 256#32
  let v35 : BitVec 32 := Scalar.muli arg10 c256_i32
  v35
def k1_off3 (k1_t2 : Fin k1_t2_loop.trips) : Fin 2 → Nat :=
  let c0_i32_7 : BitVec 32 := 0#32
  let c1_i32_9 : BitVec 32 := 1#32
  let arg10 : BitVec 32 := Scf.iv c0_i32_7 c1_i32_9 k1_t2
  let c256_i32 : BitVec 32 := 256#32
  let v35 : BitVec 32 := Scalar.muli arg10 c256_i32
  let v36 : BitVec 32 := v35
  let v37 : Index := Scalar.indexCast v36
  let c0_23 : Index := 0#32
  ![v37.toNat, 0]
def k1_off4 (k1_t2 : Fin k1_t2_loop.trips) : Fin 2 → Nat :=
  let c0_i32_7 : BitVec 32 := 0#32
  let c1_i32_9 : BitVec 32 := 1#32
  let arg10 : BitVec 32 := Scf.iv c0_i32_7 c1_i32_9 k1_t2
  let c256_i32 : BitVec 32 := 256#32
  let v35 : BitVec 32 := Scalar.muli arg10 c256_i32
  let v36 : BitVec 32 := v35
  let v40 : Index := Scalar.indexCast v36
  let c0_24 : Index := 0#32
  ![v40.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4096x256 .i8 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S2x512x4096 : Shape := ⟨3, ![2, 512, 4096]⟩
abbrev S4096x11008 : Shape := ⟨2, ![4096, 11008]⟩
abbrev S4096 : Shape := ⟨1, ![4096]⟩
abbrev S2x512x11008 : Shape := ⟨3, ![2, 512, 11008]⟩
abbrev S11008 : Shape := ⟨1, ![11008]⟩
abbrev S2x512 : Shape := ⟨2, ![2, 512]⟩
abbrev S4096x1 : Shape := ⟨2, ![4096, 1]⟩
abbrev S1x11008 : Shape := ⟨2, ![1, 11008]⟩
abbrev S1x1x4096 : Shape := ⟨3, ![1, 1, 4096]⟩
abbrev S2x512x1 : Shape := ⟨3, ![2, 512, 1]⟩
abbrev S1x1x11008 : Shape := ⟨3, ![1, 1, 11008]⟩

abbrev nBuf : Space → Nat
  | .hbm => 10
  | .vmem => 10
  | .smem => 0
  | _ => 0

abbrev bufTy : (tb : Table) → Fin (tcTables nBuf tb) → BufTy
  | .hbm, ⟨0, _⟩ => ⟨S2x512x4096, .bf16⟩
  | .hbm, ⟨1, _⟩ => ⟨S4096x11008, .bf16⟩
  | .hbm, ⟨2, _⟩ => ⟨S4096, .f32⟩
  | .hbm, ⟨3, _⟩ => ⟨S2x512x11008, .bf16⟩
  | .hbm, ⟨4, _⟩ => ⟨S4096, .f32⟩
  | .hbm, ⟨5, _⟩ => ⟨S4096x11008, .i8⟩
  | .hbm, ⟨6, _⟩ => ⟨S11008, .f32⟩
  | .hbm, ⟨7, _⟩ => ⟨S2x512x4096, .i8⟩
  | .hbm, ⟨8, _⟩ => ⟨S2x512, .f32⟩
  | .hbm, ⟨9, _⟩ => ⟨S2x512, .i32⟩
  | .local _ .vmem, ⟨0, _⟩ => ⟨S2x512x4096, .bf16⟩
  | .local _ .vmem, ⟨1, _⟩ => ⟨S4096x11008, .bf16⟩
  | .local _ .vmem, ⟨2, _⟩ => ⟨S4096, .f32⟩
  | .local _ .vmem, ⟨3, _⟩ => ⟨S2x512x11008, .bf16⟩
  | .local _ .vmem, ⟨4, _⟩ => ⟨S4096, .f32⟩
  | .local _ .vmem, ⟨5, _⟩ => ⟨S4096x11008, .i8⟩
  | .local _ .vmem, ⟨6, _⟩ => ⟨S11008, .f32⟩
  | .local _ .vmem, ⟨7, _⟩ => ⟨S2x512x4096, .i8⟩
  | .local _ .vmem, ⟨8, _⟩ => ⟨S2x512, .f32⟩
  | .local _ .vmem, ⟨9, _⟩ => ⟨S2x512, .i32⟩
  | _, _ => ⟨S2x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x11008 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x11008 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x11008 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S11008 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x512x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x512 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.K0Run.lean ====
/- Region 0 of the program (the activation quantiser): the body run, the proof data and the body obligation. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.HeldBySlice
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_act_quant` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the
    choice does not matter). -/
abbrev VO0_2 : View sig .tc .vmem S1x4096 .f32 := (Memref.whole cc0_stg2_0 : Memref sig .tc .vmem S1x4096 .f32).view
/-- One staging buffer of output window 3, through which its contents are stated (`View.read_writes_of_cover`: the
    choice does not matter). -/
abbrev VO0_3 : View sig .tc .vmem S4096x128 .f32 := (Memref.whole cc0_stg3_0 : Memref sig .tc .vmem S4096x128 .f32).view
/-- One staging buffer of output window 4, through which its contents are stated (`View.read_writes_of_cover`: the
    choice does not matter). -/
abbrev VO0_4 : View sig .tc .vmem S1024x4096 .i8 := (Memref.whole cc0_stg4_0 : Memref sig .tc .vmem S1024x4096 .i8).view
/-- One staging buffer of output window 5, through which its contents are stated (`View.read_writes_of_cover`: the
    choice does not matter). -/
abbrev VO0_5 : View sig .tc .vmem S1024x4096 .bf16 := (Memref.whole cc0_stg5_0 : Memref sig .tc .vmem S1024x4096 .bf16).view
/-- One staging buffer of output window 6, through which its contents are stated (`View.read_writes_of_cover`: the
    choice does not matter). -/
abbrev VO0_6 : View sig .tc .vmem S8x128 .f32 := (Memref.whole cc0_stg6_0 : Memref sig .tc .vmem S8x128 .f32).view
/-- One staging buffer of output window 7, through which its contents are stated (`View.read_writes_of_cover`: the
    choice does not matter). -/
abbrev VO0_7 : View sig .tc .vmem S8x128 .i32 := (Memref.whole cc0_stg7_0 : Memref sig .tc .vmem S8x128 .i32).view
/-- One staging buffer of output window 8, through which its contents are stated (`View.read_writes_of_cover`: the
    choice does not matter). -/
abbrev VO0_8 : View sig .tc .vmem S1024x128 .f32 := (Memref.whole cc0_stg8_0 : Memref sig .tc .vmem S1024x128 .f32).view
/-- One staging buffer of output window 9, through which its contents are stated (`View.read_writes_of_cover`: the
    choice does not matter). -/
abbrev VO0_9 : View sig .tc .vmem S1024x128 .f32 := (Memref.whole cc0_stg9_0 : Memref sig .tc .vmem S1024x128 .f32).view
/-- Each window's current staging memref at point `t`, spelled as the pipeline passes it (`bodyAt0`), and its wholeness. -/
abbrev ms0_0 (t : Fin cfg0.N) : Memref sig .tc .vmem S1024x4096 .bf16 := win0_0.stage (cfg0.slots t 0)
abbrev hs0_0 (t : Fin cfg0.N) : (ms0_0 t).IsWhole := hstage0_0 0
abbrev ms0_1 (t : Fin cfg0.N) : Memref sig .tc .vmem S1x4096 .f32 := win0_1.stage (cfg0.slots t 1)
abbrev hs0_1 (t : Fin cfg0.N) : (ms0_1 t).IsWhole := hstage0_1 0
abbrev ms0_2 (t : Fin cfg0.N) : Memref sig .tc .vmem S1x4096 .f32 := win0_2.stage (cfg0.slots t 2)
abbrev hs0_2 (t : Fin cfg0.N) : (ms0_2 t).IsWhole := hstage0_2 0
abbrev ms0_3 (t : Fin cfg0.N) : Memref sig .tc .vmem S4096x128 .f32 := win0_3.stage (cfg0.slots t 3)
abbrev hs0_3 (t : Fin cfg0.N) : (ms0_3 t).IsWhole := hstage0_3 0
abbrev ms0_4 (t : Fin cfg0.N) : Memref sig .tc .vmem S1024x4096 .i8 := win0_4.stage (cfg0.slots t 4)
abbrev hs0_4 (t : Fin cfg0.N) : (ms0_4 t).IsWhole := hstage0_4 0
abbrev ms0_5 (t : Fin cfg0.N) : Memref sig .tc .vmem S1024x4096 .bf16 := win0_5.stage (cfg0.slots t 5)
abbrev hs0_5 (t : Fin cfg0.N) : (ms0_5 t).IsWhole := hstage0_5 0
abbrev ms0_6 (t : Fin cfg0.N) : Memref sig .tc .vmem S8x128 .f32 := win0_6.stage (cfg0.slots t 6)
abbrev hs0_6 (t : Fin cfg0.N) : (ms0_6 t).IsWhole := hstage0_6 0
abbrev ms0_7 (t : Fin cfg0.N) : Memref sig .tc .vmem S8x128 .i32 := win0_7.stage (cfg0.slots t 7)
abbrev hs0_7 (t : Fin cfg0.N) : (ms0_7 t).IsWhole := hstage0_7 0
abbrev ms0_8 (t : Fin cfg0.N) : Memref sig .tc .vmem S1024x128 .f32 := win0_8.stage (cfg0.slots t 8)
abbrev hs0_8 (t : Fin cfg0.N) : (ms0_8 t).IsWhole := hstage0_8 0
abbrev ms0_9 (t : Fin cfg0.N) : Memref sig .tc .vmem S1024x128 .f32 := win0_9.stage (cfg0.slots t 9)
abbrev hs0_9 (t : Fin cfg0.N) : (ms0_9 t).IsWhole := hstage0_9 0

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (arg0 : Memref sig .tc .vmem S1024x4096 .bf16) (harg0 : arg0.IsWhole) (arg1 : Memref sig .tc .vmem S1x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1024x4096 .i8) (harg4 : arg4.IsWhole) (arg5 : Memref sig .tc .vmem S1024x4096 .bf16) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole)
    (x0 : Vec F S1024x4096 .bf16) (x1 : Vec F S1x4096 .f32) :
    Σ' (L2 : List (View.Piece (Elt F) S1x4096 .f32)), Σ' (L3 : List (View.Piece (Elt F) S4096x128 .f32)), Σ' (L4 : List (View.Piece (Elt F) S1024x4096 .i8)), Σ' (L5 : List (View.Piece (Elt F) S1024x4096 .bf16)), Σ' (L6 : List (View.Piece (Elt F) S8x128 .f32)), Σ' (L7 : List (View.Piece (Elt F) S8x128 .i32)), Σ' (L8 : List (View.Piece (Elt F) S1024x128 .f32)), { L9 : List (View.Piece (Elt F) S1024x128 .f32) //
      ∀ (E : Set ℕ) (K : PUnit → sProp 𝕄),
        iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg0 fullShare x0 ∗ owns (c : Thread nD τ) arg1 fullShare x1 ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E (cc0_act_quant arg0 harg0 arg1 harg1 arg2 harg2 arg3 harg3 arg4 harg4 arg5 harg5 arg6 harg6 arg7 harg7 arg8 harg8 arg9 harg9) K } := by
  refine ⟨?_, ?_, ?_, ?_, ?_, ?_, ?_, ?_, fun E K => ?run⟩
  case run =>
    simp only [cc0_act_quant_eq_skeleton]; unfold cc0_act_quant_skel
    simp only [k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg0.eq_unread hf0; obtain rfl := harg1.eq_unread hf1
    have hrd0 : ∀ (𝒱 : Variants) (c : Dev nD) (bd : Option 𝒱.V) (arg0 : Memref sig .tc .vmem S1024x4096 .bf16) (harg0 : arg0.IsWhole) (arg1 : Memref sig .tc .vmem S1x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1024x4096 .i8) (harg4 : arg4.IsWhole) (arg5 : Memref sig .tc .vmem S1024x4096 .bf16) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (v14 : FVec F S1x4096 .f32) (v148 : FVec F S128x128 .f32) (X_arg0 : BufTy.Contents (Elt F) arg0.view.ty) (X_arg2 : BufTy.Contents (Elt F) arg2.view.ty) (hrdF : BufTy.Contents (Elt F) arg8.view.ty) (hrdB : LoadRect S1024x128), arg8.view.readAt (Elt F) hrdB (arg8.view.writes (Elt F) hrdF (pb_k0_t2 (F := F) 𝒱 c bd arg0 harg0 arg1 harg1 arg2 harg2 arg3 harg3 arg4 harg4 arg5 harg5 arg6 harg6 arg7 harg7 arg8 harg8 arg9 harg9 v14 v148 X_arg0 X_arg2 (Scf.trips k0_t2_loop.lb k0_t2_loop.ub k0_t2_loop.st)).2.2.1) = arg8.view.readCov (pb_k0_t2 (F := F) 𝒱 c bd arg0 harg0 arg1 harg1 arg2 harg2 arg3 harg3 arg4 harg4 arg5 harg5 arg6 harg6 arg7 harg7 arg8 harg8 arg9 harg9 v14 v148 X_arg0 X_arg2 (Scf.trips k0_t2_loop.lb k0_t2_loop.ub k0_t2_loop.st)).2.2.1 hrdB := fun 𝒱 c bd arg0 harg0 arg1 harg1 arg2 harg2 arg3 harg3 arg4 harg4 arg5 harg5 arg6 harg6 arg7 harg7 arg8 harg8 arg9 harg9 v14 v148 X_arg0 X_arg2 hrdF hrdB => View.readAt_writes_of_cover _ hrdF _ hrdB (fun hrdJ => View.cover_of_tiledL (pb_k0_t2 (F := F) 𝒱 c bd arg0 harg0 arg1 harg1 arg2 harg2 arg3 harg3 arg4 harg4 arg5 harg5 arg6 harg6 arg7 harg7 arg8 harg8 arg9 harg9 v14 v148 X_arg0 X_arg2 (Scf.trips k0_t2_loop.lb k0_t2_loop.ub k0_t2_loop.st)).2.2.1 S64x128.size (by sl_kernel_rfl) (hrdB.idx hrdJ))
    have hrd1 : ∀ (𝒱 : Variants) (c : Dev nD) (bd : Option 𝒱.V) (arg0 : Memref sig .tc .vmem S1024x4096 .bf16) (harg0 : arg0.IsWhole) (arg1 : Memref sig .tc .vmem S1x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1024x4096 .i8) (harg4 : arg4.IsWhole) (arg5 : Memref sig .tc .vmem S1024x4096 .bf16) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (v14 : FVec F S1x4096 .f32) (v148 : FVec F S128x128 .f32) (X_arg0 : BufTy.Contents (Elt F) arg0.view.ty) (X_arg2 : BufTy.Contents (Elt F) arg2.view.ty) (hrdF : BufTy.Contents (Elt F) arg9.view.ty) (hrdB : LoadRect S1024x128), arg9.view.readAt (Elt F) hrdB (arg9.view.writes (Elt F) hrdF (pb_k0_t2 (F := F) 𝒱 c bd arg0 harg0 arg1 harg1 arg2 harg2 arg3 harg3 arg4 harg4 arg5 harg5 arg6 harg6 arg7 harg7 arg8 harg8 arg9 harg9 v14 v148 X_arg0 X_arg2 (Scf.trips k0_t2_loop.lb k0_t2_loop.ub k0_t2_loop.st)).2.2.2) = arg9.view.readCov (pb_k0_t2 (F := F) 𝒱 c bd arg0 harg0 arg1 harg1 arg2 harg2 arg3 harg3 arg4 harg4 arg5 harg5 arg6 harg6 arg7 harg7 arg8 harg8 arg9 harg9 v14 v148 X_arg0 X_arg2 (Scf.trips k0_t2_loop.lb k0_t2_loop.ub k0_t2_loop.st)).2.2.2 hrdB := fun 𝒱 c bd arg0 harg0 arg1 harg1 arg2 harg2 arg3 harg3 arg4 harg4 arg5 harg5 arg6 harg6 arg7 harg7 arg8 harg8 arg9 harg9 v14 v148 X_arg0 X_arg2 hrdF hrdB => View.readAt_writes_of_cover _ hrdF _ hrdB (fun hrdJ => View.cover_of_tiledL (pb_k0_t2 (F := F) 𝒱 c bd arg0 harg0 arg1 harg1 arg2 harg2 arg3 harg3 arg4 harg4 arg5 harg5 arg6 harg6 arg7 harg7 arg8 harg8 arg9 harg9 v14 v148 X_arg0 X_arg2 (Scf.trips k0_t2_loop.lb k0_t2_loop.ub k0_t2_loop.st)).2.2.2 S64x128.size (by sl_kernel_rfl) (hrdB.idx hrdJ))
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

/-- The run's pieces for output 2 tile its block (1 store of `S1x4096`, checked by the kernel's evaluation: Lib/Ring.lean `Piece.tiledL`, linear in the pieces, through a loop's `@[irreducible]` trip theorem too), so they cover it. -/
theorem cover0_A_2 (c : Dev nD) (arg0 : Memref sig .tc .vmem S1024x4096 .bf16) (harg0 : arg0.IsWhole) (arg1 : Memref sig .tc .vmem S1x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1024x4096 .i8) (harg4 : arg4.IsWhole) (arg5 : Memref sig .tc .vmem S1024x4096 .bf16) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole)
    (x0 : Vec F S1024x4096 .bf16) (x1 : Vec F S1x4096 .f32) (y : S1x4096.Idx) :
    ∃ pc ∈ (kernelRun0_A c arg0 harg0 arg1 harg1 arg2 harg2 arg3 harg3 arg4 harg4 arg5 harg5 arg6 harg6 arg7 harg7 arg8 harg8 arg9 harg9 x0 x1).1, y ∈ pc.1.set :=
  View.cover_of_tiledL (kernelRun0_A c arg0 harg0 arg1 harg1 arg2 harg2 arg3 harg3 arg4 harg4 arg5 harg5 arg6 harg6 arg7 harg7 arg8 harg8 arg9 harg9 x0 x1).1 S1x4096.size (by sl_kernel_rfl) y

/-- What the run leaves in output 2's staging buffer: its pieces read back over junk. -/
def out0_A_2 (c : Dev nD) (arg0 : Memref sig .tc .vmem S1024x4096 .bf16) (harg0 : arg0.IsWhole) (arg1 : Memref sig .tc .vmem S1x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1024x4096 .i8) (harg4 : arg4.IsWhole) (arg5 : Memref sig .tc .vmem S1024x4096 .bf16) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole)
    (x0 : Vec F S1024x4096 .bf16) (x1 : Vec F S1x4096 .f32) : Vec F S1x4096 .f32 :=
  VO0_2.read (Elt F) (VO0_2.writes (Elt F) VO0_2.junk (kernelRun0_A c arg0 harg0 arg1 harg1 arg2 harg2 arg3 harg3 arg4 harg4 arg5 harg5 arg6 harg6 arg7 harg7 arg8 harg8 arg9 harg9 x0 x1).1)

/-- The run's pieces for output 3 tile its block (32 stores of `S128x128`, checked by the kernel's evaluation: Lib/Ring.lean `Piece.tiledL`, linear in the pieces, through a loop's `@[irreducible]` trip theorem too), so they cover it. -/
theorem cover0_A_3 (c : Dev nD) (arg0 : Memref sig .tc .vmem S1024x4096 .bf16) (harg0 : arg0.IsWhole) (arg1 : Memref sig .tc .vmem S1x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1024x4096 .i8) (harg4 : arg4.IsWhole) (arg5 : Memref sig .tc .vmem S1024x4096 .bf16) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole)
    (x0 : Vec F S1024x4096 .bf16) (x1 : Vec F S1x4096 .f32) (y : S4096x128.Idx) :
    ∃ pc ∈ (kernelRun0_A c arg0 harg0 arg1 harg1 arg2 harg2 arg3 harg3 arg4 harg4 arg5 harg5 arg6 harg6 arg7 harg7 arg8 harg8 arg9 harg9 x0 x1).2.1, y ∈ pc.1.set :=
  View.cover_of_tiledL (kernelRun0_A c arg0 harg0 arg1 harg1 arg2 harg2 arg3 harg3 arg4 harg4 arg5 harg5 arg6 harg6 arg7 harg7 arg8 harg8 arg9 harg9 x0 x1).2.1 S128x128.size (by sl_kernel_rfl) y

/-- What the run leaves in output 3's staging buffer: its pieces read back over junk. -/
def out0_A_3 (c : Dev nD) (arg0 : Memref sig .tc .vmem S1024x4096 .bf16) (harg0 : arg0.IsWhole) (arg1 : Memref sig .tc .vmem S1x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1024x4096 .i8) (harg4 : arg4.IsWhole) (arg5 : Memref sig .tc .vmem S1024x4096 .bf16) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole)
    (x0 : Vec F S1024x4096 .bf16) (x1 : Vec F S1x4096 .f32) : Vec F S4096x128 .f32 :=
  VO0_3.read (Elt F) (VO0_3.writes (Elt F) VO0_3.junk (kernelRun0_A c arg0 harg0 arg1 harg1 arg2 harg2 arg3 harg3 arg4 harg4 arg5 harg5 arg6 harg6 arg7 harg7 arg8 harg8 arg9 harg9 x0 x1).2.1)

/-- The run's pieces for output 4 tile its block (16 stores of `S64x4096`, checked by the kernel's evaluation: Lib/Ring.lean `Piece.tiledL`, linear in the pieces, through a loop's `@[irreducible]` trip theorem too), so they cover it. -/
theorem cover0_A_4 (c : Dev nD) (arg0 : Memref sig .tc .vmem S1024x4096 .bf16) (harg0 : arg0.IsWhole) (arg1 : Memref sig .tc .vmem S1x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1024x4096 .i8) (harg4 : arg4.IsWhole) (arg5 : Memref sig .tc .vmem S1024x4096 .bf16) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole)
    (x0 : Vec F S1024x4096 .bf16) (x1 : Vec F S1x4096 .f32) (y : S1024x4096.Idx) :
    ∃ pc ∈ (kernelRun0_A c arg0 harg0 arg1 harg1 arg2 harg2 arg3 harg3 arg4 harg4 arg5 harg5 arg6 harg6 arg7 harg7 arg8 harg8 arg9 harg9 x0 x1).2.2.1, y ∈ pc.1.set :=
  View.cover_of_tiledL (kernelRun0_A c arg0 harg0 arg1 harg1 arg2 harg2 arg3 harg3 arg4 harg4 arg5 harg5 arg6 harg6 arg7 harg7 arg8 harg8 arg9 harg9 x0 x1).2.2.1 S64x4096.size (by sl_kernel_rfl) y

/-- What the run leaves in output 4's staging buffer: its pieces read back over junk. -/
def out0_A_4 (c : Dev nD) (arg0 : Memref sig .tc .vmem S1024x4096 .bf16) (harg0 : arg0.IsWhole) (arg1 : Memref sig .tc .vmem S1x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1024x4096 .i8) (harg4 : arg4.IsWhole) (arg5 : Memref sig .tc .vmem S1024x4096 .bf16) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole)
    (x0 : Vec F S1024x4096 .bf16) (x1 : Vec F S1x4096 .f32) : Vec F S1024x4096 .i8 :=
  VO0_4.read (Elt F) (VO0_4.writes (Elt F) VO0_4.junk (kernelRun0_A c arg0 harg0 arg1 harg1 arg2 harg2 arg3 harg3 arg4 harg4 arg5 harg5 arg6 harg6 arg7 harg7 arg8 harg8 arg9 harg9 x0 x1).2.2.1)

/-- The run's pieces for output 5 tile its block (16 stores of `S64x4096`, checked by the kernel's evaluation: Lib/Ring.lean `Piece.tiledL`, linear in the pieces, through a loop's `@[irreducible]` trip theorem too), so they cover it. -/
theorem cover0_A_5 (c : Dev nD) (arg0 : Memref sig .tc .vmem S1024x4096 .bf16) (harg0 : arg0.IsWhole) (arg1 : Memref sig .tc .vmem S1x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1024x4096 .i8) (harg4 : arg4.IsWhole) (arg5 : Memref sig .tc .vmem S1024x4096 .bf16) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole)
    (x0 : Vec F S1024x4096 .bf16) (x1 : Vec F S1x4096 .f32) (y : S1024x4096.Idx) :
    ∃ pc ∈ (kernelRun0_A c arg0 harg0 arg1 harg1 arg2 harg2 arg3 harg3 arg4 harg4 arg5 harg5 arg6 harg6 arg7 harg7 arg8 harg8 arg9 harg9 x0 x1).2.2.2.1, y ∈ pc.1.set :=
  View.cover_of_tiledL (kernelRun0_A c arg0 harg0 arg1 harg1 arg2 harg2 arg3 harg3 arg4 harg4 arg5 harg5 arg6 harg6 arg7 harg7 arg8 harg8 arg9 harg9 x0 x1).2.2.2.1 S64x4096.size (by sl_kernel_rfl) y

/-- What the run leaves in output 5's staging buffer: its pieces read back over junk. -/
def out0_A_5 (c : Dev nD) (arg0 : Memref sig .tc .vmem S1024x4096 .bf16) (harg0 : arg0.IsWhole) (arg1 : Memref sig .tc .vmem S1x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1024x4096 .i8) (harg4 : arg4.IsWhole) (arg5 : Memref sig .tc .vmem S1024x4096 .bf16) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole)
    (x0 : Vec F S1024x4096 .bf16) (x1 : Vec F S1x4096 .f32) : Vec F S1024x4096 .bf16 :=
  VO0_5.read (Elt F) (VO0_5.writes (Elt F) VO0_5.junk (kernelRun0_A c arg0 harg0 arg1 harg1 arg2 harg2 arg3 harg3 arg4 harg4 arg5 harg5 arg6 harg6 arg7 harg7 arg8 harg8 arg9 harg9 x0 x1).2.2.2.1)

/-- The run's pieces for output 6 tile its block (8 stores of `S1x128`, checked by the kernel's evaluation: Lib/Ring.lean `Piece.tiledL`, linear in the pieces, through a loop's `@[irreducible]` trip theorem too), so they cover it. -/
theorem cover0_A_6 (c : Dev nD) (arg0 : Memref sig .tc .vmem S1024x4096 .bf16) (harg0 : arg0.IsWhole) (arg1 : Memref sig .tc .vmem S1x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1024x4096 .i8) (harg4 : arg4.IsWhole) (arg5 : Memref sig .tc .vmem S1024x4096 .bf16) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole)
    (x0 : Vec F S1024x4096 .bf16) (x1 : Vec F S1x4096 .f32) (y : S8x128.Idx) :
    ∃ pc ∈ (kernelRun0_A c arg0 harg0 arg1 harg1 arg2 harg2 arg3 harg3 arg4 harg4 arg5 harg5 arg6 harg6 arg7 harg7 arg8 harg8 arg9 harg9 x0 x1).2.2.2.2.1, y ∈ pc.1.set :=
  View.cover_of_tiledL (kernelRun0_A c arg0 harg0 arg1 harg1 arg2 harg2 arg3 harg3 arg4 harg4 arg5 harg5 arg6 harg6 arg7 harg7 arg8 harg8 arg9 harg9 x0 x1).2.2.2.2.1 S1x128.size (by sl_kernel_rfl) y

/-- What the run leaves in output 6's staging buffer: its pieces read back over junk. -/
def out0_A_6 (c : Dev nD) (arg0 : Memref sig .tc .vmem S1024x4096 .bf16) (harg0 : arg0.IsWhole) (arg1 : Memref sig .tc .vmem S1x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1024x4096 .i8) (harg4 : arg4.IsWhole) (arg5 : Memref sig .tc .vmem S1024x4096 .bf16) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole)
    (x0 : Vec F S1024x4096 .bf16) (x1 : Vec F S1x4096 .f32) : Vec F S8x128 .f32 :=
  VO0_6.read (Elt F) (VO0_6.writes (Elt F) VO0_6.junk (kernelRun0_A c arg0 harg0 arg1 harg1 arg2 harg2 arg3 harg3 arg4 harg4 arg5 harg5 arg6 harg6 arg7 harg7 arg8 harg8 arg9 harg9 x0 x1).2.2.2.2.1)

/-- The run's pieces for output 7 tile its block (8 stores of `S1x128`, checked by the kernel's evaluation: Lib/Ring.lean `Piece.tiledL`, linear in the pieces, through a loop's `@[irreducible]` trip theorem too), so they cover it. -/
theorem cover0_A_7 (c : Dev nD) (arg0 : Memref sig .tc .vmem S1024x4096 .bf16) (harg0 : arg0.IsWhole) (arg1 : Memref sig .tc .vmem S1x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1024x4096 .i8) (harg4 : arg4.IsWhole) (arg5 : Memref sig .tc .vmem S1024x4096 .bf16) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole)
    (x0 : Vec F S1024x4096 .bf16) (x1 : Vec F S1x4096 .f32) (y : S8x128.Idx) :
    ∃ pc ∈ (kernelRun0_A c arg0 harg0 arg1 harg1 arg2 harg2 arg3 harg3 arg4 harg4 arg5 harg5 arg6 harg6 arg7 harg7 arg8 harg8 arg9 harg9 x0 x1).2.2.2.2.2.1, y ∈ pc.1.set :=
  View.cover_of_tiledL (kernelRun0_A c arg0 harg0 arg1 harg1 arg2 harg2 arg3 harg3 arg4 harg4 arg5 harg5 arg6 harg6 arg7 harg7 arg8 harg8 arg9 harg9 x0 x1).2.2.2.2.2.1 S1x128.size (by sl_kernel_rfl) y

/-- What the run leaves in output 7's staging buffer: its pieces read back over junk. -/
def out0_A_7 (c : Dev nD) (arg0 : Memref sig .tc .vmem S1024x4096 .bf16) (harg0 : arg0.IsWhole) (arg1 : Memref sig .tc .vmem S1x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1024x4096 .i8) (harg4 : arg4.IsWhole) (arg5 : Memref sig .tc .vmem S1024x4096 .bf16) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole)
    (x0 : Vec F S1024x4096 .bf16) (x1 : Vec F S1x4096 .f32) : Vec F S8x128 .i32 :=
  VO0_7.read (Elt F) (VO0_7.writes (Elt F) VO0_7.junk (kernelRun0_A c arg0 harg0 arg1 harg1 arg2 harg2 arg3 harg3 arg4 harg4 arg5 harg5 arg6 harg6 arg7 harg7 arg8 harg8 arg9 harg9 x0 x1).2.2.2.2.2.1)

/-- The run's pieces for output 8 tile its block (16 stores of `S64x128`, checked by the kernel's evaluation: Lib/Ring.lean `Piece.tiledL`, linear in the pieces, through a loop's `@[irreducible]` trip theorem too), so they cover it. -/
theorem cover0_A_8 (c : Dev nD) (arg0 : Memref sig .tc .vmem S1024x4096 .bf16) (harg0 : arg0.IsWhole) (arg1 : Memref sig .tc .vmem S1x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1024x4096 .i8) (harg4 : arg4.IsWhole) (arg5 : Memref sig .tc .vmem S1024x4096 .bf16) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole)
    (x0 : Vec F S1024x4096 .bf16) (x1 : Vec F S1x4096 .f32) (y : S1024x128.Idx) :
    ∃ pc ∈ (kernelRun0_A c arg0 harg0 arg1 harg1 arg2 harg2 arg3 harg3 arg4 harg4 arg5 harg5 arg6 harg6 arg7 harg7 arg8 harg8 arg9 harg9 x0 x1).2.2.2.2.2.2.1, y ∈ pc.1.set :=
  View.cover_of_tiledL (kernelRun0_A c arg0 harg0 arg1 harg1 arg2 harg2 arg3 harg3 arg4 harg4 arg5 harg5 arg6 harg6 arg7 harg7 arg8 harg8 arg9 harg9 x0 x1).2.2.2.2.2.2.1 S64x128.size (by sl_kernel_rfl) y

/-- What the run leaves in output 8's staging buffer: its pieces read back over junk. -/
def out0_A_8 (c : Dev nD) (arg0 : Memref sig .tc .vmem S1024x4096 .bf16) (harg0 : arg0.IsWhole) (arg1 : Memref sig .tc .vmem S1x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1024x4096 .i8) (harg4 : arg4.IsWhole) (arg5 : Memref sig .tc .vmem S1024x4096 .bf16) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole)
    (x0 : Vec F S1024x4096 .bf16) (x1 : Vec F S1x4096 .f32) : Vec F S1024x128 .f32 :=
  VO0_8.read (Elt F) (VO0_8.writes (Elt F) VO0_8.junk (kernelRun0_A c arg0 harg0 arg1 harg1 arg2 harg2 arg3 harg3 arg4 harg4 arg5 harg5 arg6 harg6 arg7 harg7 arg8 harg8 arg9 harg9 x0 x1).2.2.2.2.2.2.1)

/-- The run's pieces for output 9 tile its block (16 stores of `S64x128`, checked by the kernel's evaluation: Lib/Ring.lean `Piece.tiledL`, linear in the pieces, through a loop's `@[irreducible]` trip theorem too), so they cover it. -/
theorem cover0_A_9 (c : Dev nD) (arg0 : Memref sig .tc .vmem S1024x4096 .bf16) (harg0 : arg0.IsWhole) (arg1 : Memref sig .tc .vmem S1x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1024x4096 .i8) (harg4 : arg4.IsWhole) (arg5 : Memref sig .tc .vmem S1024x4096 .bf16) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole)
    (x0 : Vec F S1024x4096 .bf16) (x1 : Vec F S1x4096 .f32) (y : S1024x128.Idx) :
    ∃ pc ∈ (kernelRun0_A c arg0 harg0 arg1 harg1 arg2 harg2 arg3 harg3 arg4 harg4 arg5 harg5 arg6 harg6 arg7 harg7 arg8 harg8 arg9 harg9 x0 x1).2.2.2.2.2.2.2.1, y ∈ pc.1.set :=
  View.cover_of_tiledL (kernelRun0_A c arg0 harg0 arg1 harg1 arg2 harg2 arg3 harg3 arg4 harg4 arg5 harg5 arg6 harg6 arg7 harg7 arg8 harg8 arg9 harg9 x0 x1).2.2.2.2.2.2.2.1 S64x128.size (by sl_kernel_rfl) y

/-- What the run leaves in output 9's staging buffer: its pieces read back over junk. -/
def out0_A_9 (c : Dev nD) (arg0 : Memref sig .tc .vmem S1024x4096 .bf16) (harg0 : arg0.IsWhole) (arg1 : Memref sig .tc .vmem S1x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1024x4096 .i8) (harg4 : arg4.IsWhole) (arg5 : Memref sig .tc .vmem S1024x4096 .bf16) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole)
    (x0 : Vec F S1024x4096 .bf16) (x1 : Vec F S1x4096 .f32) : Vec F S1024x128 .f32 :=
  VO0_9.read (Elt F) (VO0_9.writes (Elt F) VO0_9.junk (kernelRun0_A c arg0 harg0 arg1 harg1 arg2 harg2 arg3 harg3 arg4 harg4 arg5 harg5 arg6 harg6 arg7 harg7 arg8 harg8 arg9 harg9 x0 x1).2.2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x4096 .f32 × Vec F S4096x128 .f32 × Vec F S1024x4096 .i8 × Vec F S1024x4096 .bf16 × Vec F S8x128 .f32 × Vec F S8x128 .i32 × Vec F S1024x128 .f32 × Vec F S1024x128 .f32 :=
  (out0_A_2 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t), out0_A_3 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t), out0_A_4 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t), out0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t), out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t), out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t), out0_A_8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t), out0_A_9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t).1
    | ⟨3, _⟩ => (outsAt0 V c t).2.1
    | ⟨4, _⟩ => (outsAt0 V c t).2.2.1
    | ⟨5, _⟩ => (outsAt0 V c t).2.2.2.1
    | ⟨6, _⟩ => (outsAt0 V c t).2.2.2.2.1
    | ⟨7, _⟩ => (outsAt0 V c t).2.2.2.2.2.1
    | ⟨8, _⟩ => (outsAt0 V c t).2.2.2.2.2.2.1
    | ⟨9, _⟩ => (outsAt0 V c t).2.2.2.2.2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t).1 := by dsimp only [dat0]
theorem after0_3 (c : Dev nD) (t : Fin cfg0.N) : (dat0 V c).after 3 t = (outsAt0 V c t).2.1 := by dsimp only [dat0]
theorem after0_4 (c : Dev nD) (t : Fin cfg0.N) : (dat0 V c).after 4 t = (outsAt0 V c t).2.2.1 := by dsimp only [dat0]
theorem after0_5 (c : Dev nD) (t : Fin cfg0.N) : (dat0 V c).after 5 t = (outsAt0 V c t).2.2.2.1 := by dsimp only [dat0]
theorem after0_6 (c : Dev nD) (t : Fin cfg0.N) : (dat0 V c).after 6 t = (outsAt0 V c t).2.2.2.2.1 := by dsimp only [dat0]
theorem after0_7 (c : Dev nD) (t : Fin cfg0.N) : (dat0 V c).after 7 t = (outsAt0 V c t).2.2.2.2.2.1 := by dsimp only [dat0]
theorem after0_8 (c : Dev nD) (t : Fin cfg0.N) : (dat0 V c).after 8 t = (outsAt0 V c t).2.2.2.2.2.2.1 := by dsimp only [dat0]
theorem after0_9 (c : Dev nD) (t : Fin cfg0.N) : (dat0 V c).after 9 t = (outsAt0 V c t).2.2.2.2.2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 800000 in
/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  unfold outsAt0
  unfold out0_A_2 out0_A_3 out0_A_4 out0_A_5 out0_A_6 out0_A_7 out0_A_8 out0_A_9; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c _ _ _ _ _ _ _ _ _ _ _ _ _ _ _ _ _ _ _ _ (iblk0 V c 0 t) (iblk0 V c 1 t)).2.2.2.2.2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, ⟨%e2, H2⟩, ⟨%e3, H3⟩, ⟨%e4, H4⟩, ⟨%e5, H5⟩, ⟨%e6, H6⟩, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _)
  isplitl [H8]
  · unfold owns; iexists _; isplitr
    swap; · iexact H8
    ipureintro; exact View.read_writes_of_cover _ _ _ _ _ (cover0_A_8 c _ _ _ _ _ _ _ _ _ _ _ _ _ _ _ _ _ _ _ _ _ _)
  unfold owns; iexists _; isplitr
  swap; · iexact H9
  ipureintro; exact View.read_writes_of_cover _ _ _ _ _ (cover0_A_9 c _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Hand
-- ==== Proof.K1Run.lean ====
/- Region 1's body: the values its loops and stores leave, and the run of the body with the outputs named. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.HeldBySlice
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values, as functions of the input blocks -/

/-- The running maximum of the smoothed weight's magnitudes after `n` chunks of 256 rows. -/
def amaxN (x0 : Vec F S4096x256 .bf16) (x1 : Vec F S4096x128 .f32) : ℕ → FVec F S8x256 .f32
  | 0 => k1_pay2
  | n + 1 => if h : n < k1_t1_loop.trips then
      k1_pay3 (amaxN x0 x1 n) (View.ld x1 (Rect.unit (s := S4096x128) (k1_off1 ⟨n, h⟩) S256x128.size (k1_off1_inb ⟨n, h⟩)))
        (View.ld x0 (Rect.unit (s := S4096x256) (k1_off2 ⟨n, h⟩) S256x256.size (k1_off2_inb ⟨n, h⟩)))
    else amaxN x0 x1 n

/-- The maximum over all chunks. -/
abbrev amax (x0 : Vec F S4096x256 .bf16) (x1 : Vec F S4096x128 .f32) : FVec F S8x256 .f32 := amaxN x0 x1 k1_t1_loop.trips

/-- The running column sum of the codes after `n` chunks. -/
def csumN (x0 : Vec F S4096x256 .bf16) (x1 : Vec F S4096x128 .f32) (v2 : FVec F S8x256 .f32) : ℕ → FVec F S8x256 .f32
  | 0 => k1_pay5
  | n + 1 => if h : n < k1_t2_loop.trips then
      k1_pay9 v2 (csumN x0 x1 v2 n) (View.ld x1 (Rect.unit (s := S4096x128) (k1_off3 ⟨n, h⟩) S256x128.size (k1_off3_inb ⟨n, h⟩)))
        (View.ld x0 (Rect.unit (s := S4096x256) (k1_off4 ⟨n, h⟩) S256x256.size (k1_off4_inb ⟨n, h⟩)))
    else csumN x0 x1 v2 n

/-- Chunk `k`'s piece of the integer codes. -/
def pc7 (x0 : Vec F S4096x256 .bf16) (x1 : Vec F S4096x128 .f32) (v2 : FVec F S8x256 .f32) (k : Fin k1_t2_loop.trips) : View.Piece (Elt F) S4096x256 .i8 :=
  ⟨Rect.unit (s := S4096x256) (k1_off4 k) S256x256.size (k1_off4_inb k),
    k1_pay7 v2 (View.ld x1 (Rect.unit (s := S4096x128) (k1_off3 k) S256x128.size (k1_off3_inb k)))
      (View.ld x0 (Rect.unit (s := S4096x256) (k1_off4 k) S256x256.size (k1_off4_inb k)))⟩

/-- Chunk `k`'s piece of the codes as the matrix product reads them. -/
def pc9 (x0 : Vec F S4096x256 .bf16) (x1 : Vec F S4096x128 .f32) (v2 : FVec F S8x256 .f32) (k : Fin k1_t2_loop.trips) : View.Piece (Elt F) S4096x256 .bf16 :=
  ⟨Rect.unit (s := S4096x256) (k1_off4 k) S256x256.size (k1_off4_inb k),
    k1_pay8 v2 (View.ld x1 (Rect.unit (s := S4096x128) (k1_off3 k) S256x128.size (k1_off3_inb k)))
      (View.ld x0 (Rect.unit (s := S4096x256) (k1_off4 k) S256x256.size (k1_off4_inb k)))⟩

/-- The pieces of a family over the chunks before `n`, last first. -/
def piecesN {N : ℕ} {β : Type} (p : Fin N → β) : ℕ → List β
  | 0 => []
  | n + 1 => if h : n < N then p ⟨n, h⟩ :: piecesN p n else piecesN p n

/-! ## The loops' states are these values -/

section Loops

variable (𝒱 : Variants) (c : Dev nD) (bd : Option 𝒱.V) (i : grid1.Coords) (arg1 : Memref sig .tc .vmem S4096x256 .bf16) (harg1 : arg1.IsWhole) (arg2 : Memref sig .tc .vmem S4096x128 .f32) (harg2 : arg2.IsWhole) (arg3 : Memref sig .tc .vmem S1024x4096 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S4096x256 .i8) (harg7 : arg7.IsWhole) (arg8 : Memref sig .tc .vmem S1x256 .f32) (harg8 : arg8.IsWhole) (arg9 : Memref sig .tc .vmem S4096x256 .bf16) (harg9 : arg9.IsWhole) (x0 : Vec F S4096x256 .bf16) (x1 : Vec F S4096x128 .f32)

theorem trip1_eq (k : Fin k1_t1_loop.trips) (acc : FVec F S8x256 .f32) :
    tripR_k1_t1 (F := F) 𝒱 c bd i arg1 harg1 arg2 harg2 arg3 harg3 arg4 harg4 arg5 harg5 arg6 harg6 arg7 harg7 arg8 harg8 arg9 harg9 (harg1.unread x0) (harg2.unread x1) k acc
      = k1_pay3 acc (View.ld x1 (Rect.unit (s := S4096x128) (k1_off1 k) S256x128.size (k1_off1_inb k)))
          (View.ld x0 (Rect.unit (s := S4096x256) (k1_off2 k) S256x256.size (k1_off2_inb k))) := by
  unfold tripR_k1_t1 trip_k1_t1
  simp only [View.readAt_eq_ld, harg1.read_unread, harg2.read_unread]

theorem st1_eq (n : ℕ) :
    st_k1_t1 (F := F) 𝒱 c bd i arg1 harg1 arg2 harg2 arg3 harg3 arg4 harg4 arg5 harg5 arg6 harg6 arg7 harg7 arg8 harg8 arg9 harg9 (harg1.unread x0) (harg2.unread x1) (k1_pay2 (F := F)) n = amaxN x0 x1 n := by
  induction n with
  | zero => rfl
  | succ n ih =>
    rw [st_k1_t1.eq_2]; unfold st_k1_t1Step; rw [amaxN]
    split
    · rw [trip1_eq, ih]
    · rw [ih]

theorem trip2_eq (v2 : FVec F S8x256 .f32) (k : Fin k1_t2_loop.trips) (acc : FVec F S8x256 .f32) :
    tripR_k1_t2 (F := F) 𝒱 c bd i arg1 harg1 arg2 harg2 arg3 harg3 arg4 harg4 arg5 harg5 arg6 harg6 arg7 harg7 arg8 harg8 arg9 harg9 v2 (harg1.unread x0) (harg2.unread x1) k acc
      = k1_pay9 v2 acc (View.ld x1 (Rect.unit (s := S4096x128) (k1_off3 k) S256x128.size (k1_off3_inb k)))
          (View.ld x0 (Rect.unit (s := S4096x256) (k1_off4 k) S256x256.size (k1_off4_inb k))) := by
  unfold tripR_k1_t2 trip_k1_t2
  simp only [View.readAt_eq_ld, harg1.read_unread, harg2.read_unread]

theorem trip2L_eq (v2 : FVec F S8x256 .f32) (k : Fin k1_t2_loop.trips) (acc : FVec F S8x256 .f32) :
    tripL_k1_t2 (F := F) 𝒱 c bd i arg1 harg1 arg2 harg2 arg3 harg3 arg4 harg4 arg5 harg5 arg6 harg6 arg7 harg7 arg8 harg8 arg9 harg9 v2 (harg1.unread x0) (harg2.unread x1) k acc
      = ([pc7 x0 x1 v2 k], [pc9 x0 x1 v2 k]) := by
  unfold tripL_k1_t2 trip_k1_t2 pc7 pc9
  simp only [View.readAt_eq_ld, harg1.read_unread, harg2.read_unread]

theorem st2_eq (v2 : FVec F S8x256 .f32) (n : ℕ) :
    st_k1_t2 (F := F) 𝒱 c bd i arg1 harg1 arg2 harg2 arg3 harg3 arg4 harg4 arg5 harg5 arg6 harg6 arg7 harg7 arg8 harg8 arg9 harg9 v2 (harg1.unread x0) (harg2.unread x1) (k1_pay5 (F := F)) n
      = (csumN x0 x1 v2 n, piecesN (pc7 x0 x1 v2) n, piecesN (pc9 x0 x1 v2) n) := by
  induction n with
  | zero => rfl
  | succ n ih =>
    rw [st_k1_t2.eq_2]; unfold st_k1_t2Step; rw [csumN, piecesN, piecesN]
    split
    · rw [trip2_eq, trip2L_eq, ih]; rfl
    · rw [ih]

end Loops

/-! ## The pieces cover the block -/

theorem mem_piecesN {N : ℕ} {β : Type} (p : Fin N → β) (k : Fin N) : ∀ n, k.val < n → p k ∈ piecesN p n
  | 0, h => absurd h (Nat.not_lt_zero _)
  | n + 1, h => by
    rw [piecesN]
    by_cases hk : k.val = n
    · subst hk; rw [dif_pos k.isLt]; exact List.mem_cons_self
    · have := mem_piecesN p k n (by omega)
      split
      · exact List.mem_cons_of_mem _ this
      · exact this

theorem of_mem_piecesN {N : ℕ} {β : Type} (p : Fin N → β) (q : β) : ∀ n, q ∈ piecesN p n → ∃ k, q = p k
  | 0, h => absurd h List.not_mem_nil
  | n + 1, h => by
    rw [piecesN] at h
    split at h
    · rcases List.mem_cons.mp h with h | h
      · exact ⟨_, h⟩
      · exact of_mem_piecesN p q n h
    · exact of_mem_piecesN p q n h

theorem trips2 : k1_t2_loop.trips = 16 := by decide +kernel
theorem trips1 : k1_t1_loop.trips = 16 := by decide +kernel
theorem off4_eq : ∀ k : Fin k1_t2_loop.trips, k1_off4 k = ![256 * k.val, 0] := by decide +kernel
theorem off3_eq : ∀ k : Fin k1_t2_loop.trips, k1_off3 k = ![256 * k.val, 0] := by decide +kernel
theorem off2_eq : ∀ k : Fin k1_t1_loop.trips, k1_off2 k = ![256 * k.val, 0] := by decide +kernel
theorem off1_eq : ∀ k : Fin k1_t1_loop.trips, k1_off1 k = ![256 * k.val, 0] := by decide +kernel

/-- Every index of the block lies in the rows of its chunk. -/
theorem mem_chunk (y : S4096x256.Idx) (h : (y 0).val / 256 < k1_t2_loop.trips) :
    y ∈ (Rect.unit (s := S4096x256) (k1_off4 ⟨(y 0).val / 256, h⟩) S256x256.size (k1_off4_inb _)).set := by
  rw [Rect.mem_set_unit]
  intro a
  rw [off4_eq]
  have h1 : (y 1).val < 256 := (y 1).isLt
  match a with
  | ⟨0, _⟩ => show 256 * ((y 0).val / 256) ≤ (y 0).val ∧ (y 0).val < 256 * ((y 0).val / 256) + 256; omega
  | ⟨1, _⟩ => show 0 ≤ (y 1).val ∧ (y 1).val < 0 + 256; omega

theorem row_lt (y : S4096x256.Idx) : (y 0).val / 256 < k1_t2_loop.trips := by
  rw [trips2]; have : (y 0).val < 4096 := (y 0).isLt; omega

theorem cover7 (x0 : Vec F S4096x256 .bf16) (x1 : Vec F S4096x128 .f32) (v2 : FVec F S8x256 .f32) (y : S4096x256.Idx) :
    ∃ p ∈ piecesN (pc7 x0 x1 v2) k1_t2_loop.trips, y ∈ p.1.set :=
  ⟨_, mem_piecesN _ ⟨_, row_lt y⟩ _ (row_lt y), mem_chunk y _⟩
theorem cover9 (x0 : Vec F S4096x256 .bf16) (x1 : Vec F S4096x128 .f32) (v2 : FVec F S8x256 .f32) (y : S4096x256.Idx) :
    ∃ p ∈ piecesN (pc9 x0 x1 v2) k1_t2_loop.trips, y ∈ p.1.set :=
  ⟨_, mem_piecesN _ ⟨_, row_lt y⟩ _ (row_lt y), mem_chunk y _⟩

/-! ## What the body leaves -/

/-- The weight's scales. -/
def out8 (x0 : Vec F S4096x256 .bf16) (x1 : Vec F S4096x128 .f32) : Vec F S1x256 .f32 := k1_pay4 (amax x0 x1)
/-- The weight's integer codes. -/
def out7 (x0 : Vec F S4096x256 .bf16) (x1 : Vec F S4096x128 .f32) : Vec F S4096x256 .i8 := View.canon (piecesN (pc7 x0 x1 (amax x0 x1)) k1_t2_loop.trips)
/-- The weight's codes as the matrix product reads them. -/
def wb (x0 : Vec F S4096x256 .bf16) (x1 : Vec F S4096x128 .f32) : Vec F S4096x256 .bf16 := View.canon (piecesN (pc9 x0 x1 (amax x0 x1)) k1_t2_loop.trips)
/-- The result block. -/
def out6 (x0 : Vec F S4096x256 .bf16) (x1 : Vec F S4096x128 .f32) (x2 : Vec F S1024x4096 .bf16) (x3 x4 : Vec F S1024x128 .f32) : Vec F S1024x256 .bf16 :=
  k1_pay1 (k1_pay10 (csumN x0 x1 (amax x0 x1) k1_t2_loop.trips) x2 (wb x0 x1)
    (View.ld x4 (Rect.unit (s := S1024x128) ![0, 0] S1024x1.size inb_S1024x128_S1024x1_0_0))
    (View.ld x3 (Rect.unit (s := S1024x128) ![0, 0] S1024x1.size inb_S1024x128_S1024x1_0_0))) (k1_pay11 (amax x0 x1))

set_option maxHeartbeats 1000000 in
/-- The body's triple with its outputs named. -/
theorem kernelRun1_A (c : Dev nD) (i : grid1.Coords) (arg1 : Memref sig .tc .vmem S4096x256 .bf16) (harg1 : arg1.IsWhole) (arg2 : Memref sig .tc .vmem S4096x128 .f32) (harg2 : arg2.IsWhole) (arg3 : Memref sig .tc .vmem S1024x4096 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S4096x256 .i8) (harg7 : arg7.IsWhole) (arg8 : Memref sig .tc .vmem S1x256 .f32) (harg8 : arg8.IsWhole) (arg9 : Memref sig .tc .vmem S4096x256 .bf16) (harg9 : arg9.IsWhole)
    (x0 : Vec F S4096x256 .bf16) (x1 : Vec F S4096x128 .f32) (x2 : Vec F S1024x4096 .bf16) (x3 : Vec F S1024x128 .f32) (x4 : Vec F S1024x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6 x0 x1 x2 x3 x4) ∗ owns (c : Thread nD τ) arg7 fullShare (out7 x0 x1) ∗ owns (c : Thread nD τ) arg8 fullShare (out8 x0 x1) ∗ (∃ d, owns (c : Thread nD τ) arg9 fullShare d)) -∗ K ⟨⟩))
          ⊢ wp frame (wpE (defs₀ (F := F)) Variants.none c none) E (cc1_weight_quant_matmul i arg1 harg1 arg2 harg2 arg3 harg3 arg4 harg4 arg5 harg5 arg6 harg6 arg7 harg7 arg8 harg8 arg9 harg9) K := by
    intro E K
    simp only [cc1_weight_quant_matmul_eq_skeleton]; unfold cc1_weight_quant_matmul_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      unfold kernelRun1_A.sl.r kernelRun1_A.sl.r_1
      refine (View.read_writes_full (s := S1024x256) arg6.view f5 inb_S1024x256_S1024x256_0_0 _ []).trans ?_
      have hv : kernelRun1_A.sl.v19 c i arg1 harg1 arg2 harg2 arg3 harg3 arg4 harg4 arg5 harg5 arg6 harg6 arg7 harg7 arg8 harg8 arg9 harg9 x0 x1 fs0 = wb x0 x1 := by
        unfold kernelRun1_A.sl.v19
        rw [st1_eq, st2_eq]
        exact (View.readAt_full (s := S4096x256) arg9.view _ inb_S4096x256_S4096x256_0_0).trans (View.read_writes_eq_canon _ _ _ (cover9 x0 x1 _))
      have hx : View.readAt (Elt F) arg3.view (Rect.unit (s := S1024x4096) ![0, 0] S1024x4096.size inb_S1024x4096_S1024x4096_0_0).toLoadRect (harg3.unread x2) = x2 :=
        (View.readAt_full (s := S1024x4096) arg3.view _ inb_S1024x4096_S1024x4096_0_0).trans (harg3.read_unread x2)
      rw [st1_eq, st2_eq, hv]
      unfold out6
      rw [View.readAt_eq_ld arg5.view, View.readAt_eq_ld arg4.view, harg5.read_unread, harg4.read_unread]
      congr 2
    isplitl [H6]
    · iexists _; isplitr; swap; · iexact H6
      ipureintro
      rw [st1_eq, st2_eq]
      exact View.read_writes_eq_canon _ _ _ (cover7 x0 x1 _)
    isplitl [H7]
    · iexists _; isplitr; swap; · iexact H7
      ipureintro
      unfold kernelRun1_A.sl.H7_1
      rw [st1_eq]
      exact View.read_writes_full (s := S1x256) arg8.view _ inb_S1x256_S1x256_0_0 _ []
    iexists _, _; isplitr; swap; · iexact HS0
    ipureintro; rfl

end Cert.KernelIdeal.Hand
-- ==== Proof.K1Obl.lean ====
/- Region 1's proof data, with the outputs named, and its body obligation. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.HeldBySlice
public import Idealize.ShloMosaic.Lib.VecWindow
public import Idealize.ShloMosaic.Lib.Ring
public import Idealize.ShloMosaic.Lib.Tactic
public import Idealize.ShloMosaic.Lib.WordCmp
public import proofs.«01_k».proof.Proof.K1Run

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_weight_quant_matmul` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- Each window's current staging memref at point `t`, spelled as the pipeline passes it (`bodyAt1`), and its wholeness. -/
abbrev ms1_0 (t : Fin cfg1.N) : Memref sig .tc .vmem S4096x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x4096 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S4096x256 .i8 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x256 .f32 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S4096x256 .bf16 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The pipeline's proof data -/

/-- The proof data of pipeline 1 on core `c`: the arrays as the region finds them (`V`); after the body at
    point `t` each input's buffer at its block and the outputs at the body's values; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out6 (iblk1 V c 0 t) (iblk1 V c 1 t) (iblk1 V c 2 t) (iblk1 V c 3 t) (iblk1 V c 4 t)
    | ⟨6, _⟩ => out7 (iblk1 V c 0 t) (iblk1 V c 1 t)
    | ⟨7, _⟩ => out8 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out6 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out7 (iblk1 V c 0 t) (iblk1 V c 1 t) := by dsimp only [dat1]
theorem after1_7 (c : Dev nD) (t : Fin cfg1.N) : (dat1 V c).after 7 t = out8 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 800000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  rw [show (dat1 V c).Φ t.castSucc = Pipeline.ΦA spec1 c from rfl, PhiA1_eq]
  iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1_A c (grid1.coords t) _ _ _ _ _ _ _ _ _ _ _ _ _ _ _ _ _ _ (iblk1 V c 0 t) (iblk1 V c 1 t) (iblk1 V c 2 t) (iblk1 V c 3 t) (iblk1 V c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  iintro ⟨H0, H1, H2, H3, H4, H5, H6, H7, HS0⟩
  isplitl [HR0 HR1 HR2 HR3 HR4 HR5 HR6 HR7 HR8 HR9 HS0 Hg]
  · isplitl [HR0 HR1 HR2 HR3 HR4 HR5 HR6 HR7 HR8 HR9 HS0]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Hand
-- ==== Proof.KRun.lean ====
/- The program's run: @main's segments from the launch to the return, every buffer's final contents by name. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.HeldBySlice
public import Idealize.ShloMosaic.Lib.VecWindow
public import Idealize.ShloMosaic.Lib.Ring
public import Idealize.ShloMosaic.Lib.Tactic
public import Idealize.ShloMosaic.Lib.WordCmp
public import proofs.«01_k».proof.Proof.K0Run
public import proofs.«01_k».proof.Proof.K1Obl

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5, main_v6, main_v7, main_v8, main_v9]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters, every weakly fair execution of @main terminates, and every final state has
    every unscoped buffer at the last boundary's contents `W4` and every semaphore counter at zero. -/
theorem run_value : θ_run defs (onTc (τ := τ) (main (F := F))) ⟨m, fun _ => 0, ρ⟩ (fun r => (∀ c : Dev nD, ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c => h c, funext fun g => hz g (.inr (no_unscoped g.2))⟩)

/-- The frame: the arguments end as launched, and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c)⟩, h.2⟩) (run_value m ρ)

end Cert.KernelIdeal.Hand
-- ==== Proof.KernelFrame.lean ====
/- The printed kernel's run at machine floats, taken over from the run proved for any floats. -/
module

public import proofs.«01_k».proof.Defs
public import proofs.«01_k».proof.Proof.Gen.Kernel
public import proofs.«01_k».proof.Proof.Gen.KernelIdeal
public import proofs.«01_k».proof.Proof.KRun
public import Idealize.ShloMosaic.Lib.Tactic
public import Idealize.ShloMosaic.Lib.Ring

@[expose] public section

set_option maxRecDepth 20000

noncomputable section

namespace Cert.Kernel.Hand

open Idealize.ShloMosaic Idealize.ShloMosaic.Tactic

attribute [local instance] Cert.Kernel.Gen.facts Cert.KernelIdeal.Gen.facts

/-- No operation was rewritten between the printed kernel and its ideal text, so the two programs are the same
    definitions under two names, and the run of one at machine floats is the run of the other. -/
theorem frame : Cert.quiescent_Kernel := fun m g _ => by
  refine Eq.mp ?_ (Cert.KernelIdeal.Hand.frame (F := Bits) m g)
  sl_kernel_rfl

end Cert.Kernel.Hand

end
-- ==== Proof.Ref.lean ====
/- The reference's run: each result array as one function of the argument arrays. -/
module

public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_3) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_4) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_5) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_6) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))
/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x512x4096.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 512 + 1 * (j 1).val = (j 1).val; omega
  | ⟨2, _⟩ => show win0_0.index t (2 : Fin 3) * 4096 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S4096x11008.Idx) : ((cfg0.win 1).blk t).view.emb j = j := by
  obtain ⟨e0, e1⟩ := idx_zero1 t
  funext a; apply Fin.ext
  match a with
  | ⟨0, _⟩ => show win0_1.index t (0 : Fin 2) * 4096 + 1 * (j 0).val = (j 0).val; omega
  | ⟨1, _⟩ => show win0_1.index t (1 : Fin 2) * 11008 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0] : Fin 1 → Nat) = fun _ => 0 := funext fun a => by fin_cases a <;> rfl

/-- Window 2's block index at the one point is zero on every axis. -/
theorem idx_zero2 : ∀ t : Fin cfg0.N, win0_2.index t (0 : Fin 1) = 0 :=
  (by decide +kernel : ∀ t : Fin grid0.N, _)

/-- An index of window 2's block is the same index of its array. -/
theorem emb2 (t : Fin cfg0.N) (j : S4096.Idx) : ((cfg0.win 2).blk t).view.emb j = j := by
  have e0 := idx_zero2 t
  funext a; apply Fin.ext
  match a with
  | ⟨0, _⟩ => show win0_2.index t (0 : Fin 1) * 4096 + 1 * (j 0).val = (j 0).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S2x512x11008.Idx) : ((cfg0.win 3).blk t).view.emb j = j := by
  obtain ⟨e0, e1, e2⟩ := idx_zero3 t
  funext a; apply Fin.ext
  match a with
  | ⟨0, _⟩ => show win0_3.index t (0 : Fin 3) * 2 + 1 * (j 0).val = (j 0).val; omega
  | ⟨1, _⟩ => show win0_3.index t (1 : Fin 3) * 512 + 1 * (j 1).val = (j 1).val; omega
  | ⟨2, _⟩ => show win0_3.index t (2 : Fin 3) * 11008 + 1 * (j 2).val = (j 2).val; omega

theorem hz4 : (![0] : Fin 1 → Nat) = fun _ => 0 := funext fun a => by fin_cases a <;> rfl

/-- Window 4's block index at the one point is zero on every axis. -/
theorem idx_zero4 : ∀ t : Fin cfg0.N, win0_4.index t (0 : Fin 1) = 0 :=
  (by decide +kernel : ∀ t : Fin grid0.N, _)

/-- An index of window 4's block is the same index of its array. -/
theorem emb4 (t : Fin cfg0.N) (j : S4096.Idx) : ((cfg0.win 4).blk t).view.emb j = j := by
  have e0 := idx_zero4 t
  funext a; apply Fin.ext
  match a with
  | ⟨0, _⟩ => show win0_4.index t (0 : Fin 1) * 4096 + 1 * (j 0).val = (j 0).val; omega

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S4096x11008.Idx) : ((cfg0.win 5).blk t).view.emb j = j := by
  obtain ⟨e0, e1⟩ := idx_zero5 t
  funext a; apply Fin.ext
  match a with
  | ⟨0, _⟩ => show win0_5.index t (0 : Fin 2) * 4096 + 1 * (j 0).val = (j 0).val; omega
  | ⟨1, _⟩ => show win0_5.index t (1 : Fin 2) * 11008 + 1 * (j 1).val = (j 1).val; omega

theorem hz6 : (![0] : Fin 1 → Nat) = fun _ => 0 := funext fun a => by fin_cases a <;> rfl

/-- Window 6's block index at the one point is zero on every axis. -/
theorem idx_zero6 : ∀ t : Fin cfg0.N, win0_6.index t (0 : Fin 1) = 0 :=
  (by decide +kernel : ∀ t : Fin grid0.N, _)

/-- An index of window 6's block is the same index of its array. -/
theorem emb6 (t : Fin cfg0.N) (j : S11008.Idx) : ((cfg0.win 6).blk t).view.emb j = j := by
  have e0 := idx_zero6 t
  funext a; apply Fin.ext
  match a with
  | ⟨0, _⟩ => show win0_6.index t (0 : Fin 1) * 11008 + 1 * (j 0).val = (j 0).val; omega

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S2x512x4096.Idx) : ((cfg0.win 7).blk t).view.emb j = j := by
  obtain ⟨e0, e1, e2⟩ := idx_zero7 t
  funext a; apply Fin.ext
  match a with
  | ⟨0, _⟩ => show win0_7.index t (0 : Fin 3) * 2 + 1 * (j 0).val = (j 0).val; omega
  | ⟨1, _⟩ => show win0_7.index t (1 : Fin 3) * 512 + 1 * (j 1).val = (j 1).val; omega
  | ⟨2, _⟩ => show win0_7.index t (2 : Fin 3) * 4096 + 1 * (j 2).val = (j 2).val; omega

theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S2x512.Idx) : ((cfg0.win 8).blk t).view.emb j = j := by
  obtain ⟨e0, e1⟩ := idx_zero8 t
  funext a; apply Fin.ext
  match a with
  | ⟨0, _⟩ => show win0_8.index t (0 : Fin 2) * 2 + 1 * (j 0).val = (j 0).val; omega
  | ⟨1, _⟩ => show win0_8.index t (1 : Fin 2) * 512 + 1 * (j 1).val = (j 1).val; omega

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S2x512.Idx) : ((cfg0.win 9).blk t).view.emb j = j := by
  obtain ⟨e0, e1⟩ := idx_zero9 t
  funext a; apply Fin.ext
  match a with
  | ⟨0, _⟩ => show win0_9.index t (0 : Fin 2) * 2 + 1 * (j 0).val = (j 0).val; omega
  | ⟨1, _⟩ => show win0_9.index t (1 : Fin 2) * 512 + 1 * (j 1).val = (j 1).val; omega

/-! ### Output window 3: the array after the run -/

/-- What the window's array ends holding: `out0_3` applied to the argument arrays in place of the input blocks (a value that the
    frame states apart, `kK_payN a…`, keeps its loads inside its own definition). -/
abbrev G3 (a0 : Vec F S2x512x4096 .bf16) (a1 : Vec F S4096x11008 .bf16) (a2 : Vec F S4096 .f32) : Vec F S2x512x11008 .bf16 :=
  k0_pay1 (k0_pay14 (k0_pay17 a0 a1 a2) (k0_pay18 a0 a1 a2) (k0_pay19 a0 a1 a2) (k0_pay20 a0 a1 a2)) (k0_pay15 (k0_pay16 a0 a1 a2))

/-- The one store through the whole rectangle leaves its payload. -/
theorem out3_eq (a0 : Vec F S2x512x4096 .bf16) (a1 : Vec F S4096x11008 .bf16) (a2 : Vec F S4096 .f32) : out0_3 (F := F) a0 a1 a2 = G3 a0 a1 a2 := by
  unfold out0_3
  rw [View.canon_unit_zero hz3]

/-- Cutting the point's block out of `X` and reading `X` through the block's view give the same. -/
theorem cut3_eq (t : Fin cfg0.N) (X : Vec F S2x512x11008 .bf16) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S2x512x11008.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks (a value that the
    frame states apart, `kK_payN a…`, keeps its loads inside its own definition). -/
abbrev G4 (a0 : Vec F S2x512x4096 .bf16) (a1 : Vec F S4096x11008 .bf16) (a2 : Vec F S4096 .f32) : Vec F S4096 .f32 :=
  k0_pay3 a0 a2

/-- A load of the whole of a block reads the block, and the one store through the whole rectangle leaves its payload. -/
theorem out4_eq (a0 : Vec F S2x512x4096 .bf16) (a1 : Vec F S4096x11008 .bf16) (a2 : Vec F S4096 .f32) : out0_4 (F := F) a0 a1 a2 = G4 a0 a1 a2 := by
  unfold out0_4
  rw [View.canon_unit_zero hz4, View.ld_unit_zero (S := S2x512x4096) hz0 _ a0, View.ld_unit_zero (S := S4096) hz2 _ a2]

/-- Cutting the point's block out of `X` and reading `X` through the block's view give the same. -/
theorem cut4_eq (t : Fin cfg0.N) (X : Vec F S4096 .f32) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S4096.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks (a value that the
    frame states apart, `kK_payN a…`, keeps its loads inside its own definition). -/
abbrev G5 (a0 : Vec F S2x512x4096 .bf16) (a1 : Vec F S4096x11008 .bf16) (a2 : Vec F S4096 .f32) : Vec F S4096x11008 .i8 :=
  k0_pay17 a0 a1 a2

/-- The one store through the whole rectangle leaves its payload. -/
theorem out5_eq (a0 : Vec F S2x512x4096 .bf16) (a1 : Vec F S4096x11008 .bf16) (a2 : Vec F S4096 .f32) : out0_5 (F := F) a0 a1 a2 = G5 a0 a1 a2 := by
  unfold out0_5
  rw [View.canon_unit_zero hz5]

/-- Cutting the point's block out of `X` and reading `X` through the block's view give the same. -/
theorem cut5_eq (t : Fin cfg0.N) (X : Vec F S4096x11008 .i8) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S4096x11008.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ### Output window 6: the array after the run -/

/-- What the window's array ends holding: `out0_6` applied to the argument arrays in place of the input blocks (a value that the
    frame states apart, `kK_payN a…`, keeps its loads inside its own definition). -/
abbrev G6 (a0 : Vec F S2x512x4096 .bf16) (a1 : Vec F S4096x11008 .bf16) (a2 : Vec F S4096 .f32) : Vec F S11008 .f32 :=
  k0_pay16 a0 a1 a2

/-- The one store through the whole rectangle leaves its payload. -/
theorem out6_eq (a0 : Vec F S2x512x4096 .bf16) (a1 : Vec F S4096x11008 .bf16) (a2 : Vec F S4096 .f32) : out0_6 (F := F) a0 a1 a2 = G6 a0 a1 a2 := by
  unfold out0_6
  rw [View.canon_unit_zero hz6]

/-- Cutting the point's block out of `X` and reading `X` through the block's view give the same. -/
theorem cut6_eq (t : Fin cfg0.N) (X : Vec F S11008 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2)) := by
  show (cfg0.win 6).cut (grid0.coords t) ((dats m 0 c).after 6 t) = _
  rw [after0_6, out6_eq, iblk0_eq, iblk1_eq, iblk2_eq]
  exact cut6_eq t _

/-- Every index of the array is in the point's block. -/
theorem covered6 (i : S11008.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) :=
  ((dats m 0 c).arrAt_eq_of_cover 6 (G6 (V m c main_arg0) (V m c main_arg1) (V m c main_arg2)) (fun t _ => flushed6_eq m c t) covered6).trans (by rw [V_main_arg0, V_main_arg1, V_main_arg2])

/-! ### Output window 7: the array after the run -/

/-- What the window's array ends holding: `out0_7` applied to the argument arrays in place of the input blocks (a value that the
    frame states apart, `kK_payN a…`, keeps its loads inside its own definition). -/
abbrev G7 (a0 : Vec F S2x512x4096 .bf16) (a1 : Vec F S4096x11008 .bf16) (a2 : Vec F S4096 .f32) : Vec F S2x512x4096 .i8 :=
  k0_pay13 (k0_pay18 a0 a1 a2) (k0_pay19 a0 a1 a2) (k0_pay20 a0 a1 a2)

/-- The one store through the whole rectangle leaves its payload. -/
theorem out7_eq (a0 : Vec F S2x512x4096 .bf16) (a1 : Vec F S4096x11008 .bf16) (a2 : Vec F S4096 .f32) : out0_7 (F := F) a0 a1 a2 = G7 a0 a1 a2 := by
  unfold out0_7
  rw [View.canon_unit_zero hz7]

/-- Cutting the point's block out of `X` and reading `X` through the block's view give the same. -/
theorem cut7_eq (t : Fin cfg0.N) (X : Vec F S2x512x4096 .i8) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2)) := by
  show (cfg0.win 7).cut (grid0.coords t) ((dats m 0 c).after 7 t) = _
  rw [after0_7, out7_eq, iblk0_eq, iblk1_eq, iblk2_eq]
  exact cut7_eq t _

/-- Every index of the array is in the point's block. -/
theorem covered7 (i : S2x512x4096.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) :=
  ((dats m 0 c).arrAt_eq_of_cover 7 (G7 (V m c main_arg0) (V m c main_arg1) (V m c main_arg2)) (fun t _ => flushed7_eq m c t) covered7).trans (by rw [V_main_arg0, V_main_arg1, V_main_arg2])

/-! ### Output window 8: the array after the run -/

/-- What the window's array ends holding: `out0_8` applied to the argument arrays in place of the input blocks (a value that the
    frame states apart, `kK_payN a…`, keeps its loads inside its own definition). -/
abbrev G8 (a0 : Vec F S2x512x4096 .bf16) (a1 : Vec F S4096x11008 .bf16) (a2 : Vec F S4096 .f32) : Vec F S2x512 .f32 :=
  k0_pay11 (k0_pay18 a0 a1 a2) (k0_pay19 a0 a1 a2) (k0_pay20 a0 a1 a2)

/-- The one store through the whole rectangle leaves its payload. -/
theorem out8_eq (a0 : Vec F S2x512x4096 .bf16) (a1 : Vec F S4096x11008 .bf16) (a2 : Vec F S4096 .f32) : out0_8 (F := F) a0 a1 a2 = G8 a0 a1 a2 := by
  unfold out0_8
  rw [View.canon_unit_zero hz8]

/-- Cutting the point's block out of `X` and reading `X` through the block's view give the same. -/
theorem cut8_eq (t : Fin cfg0.N) (X : Vec F S2x512 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2)) := by
  show (cfg0.win 8).cut (grid0.coords t) ((dats m 0 c).after 8 t) = _
  rw [after0_8, out8_eq, iblk0_eq, iblk1_eq, iblk2_eq]
  exact cut8_eq t _

/-- Every index of the array is in the point's block. -/
theorem covered8 (i : S2x512.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) :=
  ((dats m 0 c).arrAt_eq_of_cover 8 (G8 (V m c main_arg0) (V m c main_arg1) (V m c main_arg2)) (fun t _ => flushed8_eq m c t) covered8).trans (by rw [V_main_arg0, V_main_arg1, V_main_arg2])

/-! ### Output window 9: the array after the run -/

/-- What the window's array ends holding: `out0_9` applied to the argument arrays in place of the input blocks (a value that the
    frame states apart, `kK_payN a…`, keeps its loads inside its own definition). -/
abbrev G9 (a0 : Vec F S2x512x4096 .bf16) (a1 : Vec F S4096x11008 .bf16) (a2 : Vec F S4096 .f32) : Vec F S2x512 .i32 :=
  k0_pay12 (k0_pay18 a0 a1 a2) (k0_pay19 a0 a1 a2) (k0_pay20 a0 a1 a2)

/-- The one store through the whole rectangle leaves its payload. -/
theorem out9_eq (a0 : Vec F S2x512x4096 .bf16) (a1 : Vec F S4096x11008 .bf16) (a2 : Vec F S4096 .f32) : out0_9 (F := F) a0 a1 a2 = G9 a0 a1 a2 := by
  unfold out0_9
  rw [View.canon_unit_zero hz9]

/-- Cutting the point's block out of `X` and reading `X` through the block's view give the same. -/
theorem cut9_eq (t : Fin cfg0.N) (X : Vec F S2x512 .i32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2)) := by
  show (cfg0.win 9).cut (grid0.coords t) ((dats m 0 c).after 9 t) = _
  rw [after0_9, out9_eq, iblk0_eq, iblk1_eq, iblk2_eq]
  exact cut9_eq t _

/-- Every index of the array is in the point's block. -/
theorem covered9 (i : S2x512.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) :=
  ((dats m 0 c).arrAt_eq_of_cover 9 (G9 (V m c main_arg0) (V m c main_arg1) (V m c main_arg2)) (fun t _ => flushed9_eq m c t) covered9).trans (by rw [V_main_arg0, V_main_arg1, V_main_arg2])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_v0_3) = G6 (m ((c : Thread nD τ).loc main_arg0)) (m ((c : Thread nD τ).loc main_arg1)) (m ((c : Thread nD τ).loc main_arg2))
      ∧ r.2.mem ((c : Thread nD τ).loc main_v0_4) = G7 (m ((c : Thread nD τ).loc main_arg0)) (m ((c : Thread nD τ).loc main_arg1)) (m ((c : Thread nD τ).loc main_arg2))
      ∧ r.2.mem ((c : Thread nD τ).loc main_v0_5) = G8 (m ((c : Thread nD τ).loc main_arg0)) (m ((c : Thread nD τ).loc main_arg1)) (m ((c : Thread nD τ).loc main_arg2))
      ∧ r.2.mem ((c : Thread nD τ).loc main_v0_6) = G9 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      (post6 m r h c).trans (final6 m c),
      (post7 m r h c).trans (final7 m c),
      (post8 m r h c).trans (final8 m c),
      (post9 m r h c).trans (final9 m c),
      kept_main_arg0 m r h c,
      kept_main_arg1 m r h c,
      kept_main_arg2 m r h c⟩)
    (run_main m ρ)

end Cert.ReferenceIdeal.Hand

end
-- ==== Proof.K0Val.lean ====
/- Region 0's outputs, named as functions of its input blocks. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.HeldBySlice
public import Idealize.ShloMosaic.Lib.Ring
public import Idealize.ShloMosaic.Lib.Tactic
public import Idealize.ShloMosaic.Lib.WordCmp

public import Idealize.ShloMosaic.Lib.Pointwise
public import Idealize.ShloMosaic.Lib.Pipeline.ValueKit
public import proofs.«01_k».proof.Proof.K0Run
public import proofs.«01_k».proof.Proof.K1Run

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Region 0's values, as functions of the input blocks -/

/-- The running maximum of the activation's magnitudes after `n` chunks of 64 rows. -/
def amax0N (x0 : Vec F S1024x4096 .bf16) : ℕ → FVec F S64x4096 .bf16
  | 0 => k0_pay11
  | n + 1 => if h : n < k0_t1_loop.trips then
      k0_pay12 (amax0N x0 n) (View.ld x0 (Rect.unit (s := S1024x4096) (k0_off1 ⟨n, h⟩) S64x4096.size (k0_off1_inb ⟨n, h⟩)))
    else amax0N x0 n

/-- The smoothing factors. -/
def s0 (x0 : Vec F S1024x4096 .bf16) (x1 : Vec F S1x4096 .f32) : Vec F S1x4096 .f32 := k0_pay13 (amax0N x0 k0_t1_loop.trips) x1

/-- Chunk `k`'s rows of the activation. -/
abbrev rows0 (x0 : Vec F S1024x4096 .bf16) (k : Fin k0_t2_loop.trips) : Vec F S64x4096 .bf16 :=
  View.ld x0 (Rect.unit (s := S1024x4096) (k0_off2 k) S64x4096.size (k0_off2_inb k))

def pc04 (x0 : Vec F S1024x4096 .bf16) (s : Vec F S1x4096 .f32) (k : Fin k0_t2_loop.trips) : View.Piece (Elt F) S1024x4096 .i8 :=
  ⟨Rect.unit (s := S1024x4096) (k0_off2 k) S64x4096.size (k0_off2_inb k), k0_pay10 (rows0 x0 k) s⟩
def pc05 (x0 : Vec F S1024x4096 .bf16) (s : Vec F S1x4096 .f32) (k : Fin k0_t2_loop.trips) : View.Piece (Elt F) S1024x4096 .bf16 :=
  ⟨Rect.unit (s := S1024x4096) (k0_off2 k) S64x4096.size (k0_off2_inb k), k0_pay48 (k0_pay9 (rows0 x0 k) s)⟩
def pc08 (x0 : Vec F S1024x4096 .bf16) (s : Vec F S1x4096 .f32) (k : Fin k0_t2_loop.trips) : View.Piece (Elt F) S1024x128 .f32 :=
  ⟨Rect.unit (s := S1024x128) (k0_off3 k) S64x128.size (k0_off3_inb k), k0_pay49 (k0_pay7 (rows0 x0 k) s)⟩
def pc09 (x0 : Vec F S1024x4096 .bf16) (s : Vec F S1x4096 .f32) (k : Fin k0_t2_loop.trips) : View.Piece (Elt F) S1024x128 .f32 :=
  ⟨Rect.unit (s := S1024x128) (k0_off3 k) S64x128.size (k0_off3_inb k), k0_pay50 (k0_pay8 (rows0 x0 k) s)⟩

section Loops0

variable (𝒱 : Variants) (c : Dev nD) (bd : Option 𝒱.V) (arg0 : Memref sig .tc .vmem S1024x4096 .bf16) (harg0 : arg0.IsWhole) (arg1 : Memref sig .tc .vmem S1x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1024x4096 .i8) (harg4 : arg4.IsWhole) (arg5 : Memref sig .tc .vmem S1024x4096 .bf16) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (x0 : Vec F S1024x4096 .bf16) (x1 : Vec F S1x4096 .f32)

theorem trip01_eq (k : Fin k0_t1_loop.trips) (acc : FVec F S64x4096 .bf16) :
    tripR_k0_t1 (F := F) 𝒱 c bd arg0 harg0 arg1 harg1 arg2 harg2 arg3 harg3 arg4 harg4 arg5 harg5 arg6 harg6 arg7 harg7 arg8 harg8 arg9 harg9 (harg0.unread x0) k acc
      = k0_pay12 acc (View.ld x0 (Rect.unit (s := S1024x4096) (k0_off1 k) S64x4096.size (k0_off1_inb k))) := by
  unfold tripR_k0_t1 trip_k0_t1
  simp only [View.readAt_eq_ld, harg0.read_unread]

theorem st01_eq (n : ℕ) :
    st_k0_t1 (F := F) 𝒱 c bd arg0 harg0 arg1 harg1 arg2 harg2 arg3 harg3 arg4 harg4 arg5 harg5 arg6 harg6 arg7 harg7 arg8 harg8 arg9 harg9 (harg0.unread x0) (k0_pay11 (F := F)) n = amax0N x0 n := by
  induction n with
  | zero => rfl
  | succ n ih =>
    rw [st_k0_t1.eq_2]; unfold st_k0_t1Step; rw [amax0N]
    split
    · rw [trip01_eq, ih]
    · rw [ih]

theorem trip02_eq (v14 : FVec F S1x4096 .f32) (v148 : FVec F S128x128 .f32) (X2 : BufTy.Contents (Elt F) arg2.view.ty) (k : Fin k0_t2_loop.trips) :
    tripL_k0_t2 (F := F) 𝒱 c bd arg0 harg0 arg1 harg1 arg2 harg2 arg3 harg3 arg4 harg4 arg5 harg5 arg6 harg6 arg7 harg7 arg8 harg8 arg9 harg9 v14 v148 (harg0.unread x0) X2 k
      = ([pc04 x0 (arg2.view.read (Elt F) X2) k], [pc05 x0 (arg2.view.read (Elt F) X2) k], [pc08 x0 (arg2.view.read (Elt F) X2) k], [pc09 x0 (arg2.view.read (Elt F) X2) k]) := by
  have hx : View.readAt (Elt F) arg2.view (Rect.unit (s := S1x4096) ![0, 0] S1x4096.size inb_S1x4096_S1x4096_0_0).toLoadRect X2 = arg2.view.read (Elt F) X2 :=
    View.readAt_full (s := S1x4096) arg2.view _ inb_S1x4096_S1x4096_0_0
  unfold tripL_k0_t2 trip_k0_t2 trip_k0_t2.sl.r trip_k0_t2.sl.r_1 trip_k0_t2.sl.r_2 trip_k0_t2.sl.r_3 pc04 pc05 pc08 pc09
  simp only [View.readAt_eq_ld arg0.view, hx, harg0.read_unread]

theorem pb02_eq (v14 : FVec F S1x4096 .f32) (v148 : FVec F S128x128 .f32) (X2 : BufTy.Contents (Elt F) arg2.view.ty) (s : Vec F S1x4096 .f32) (hs : arg2.view.read (Elt F) X2 = s) (n : ℕ) :
    pb_k0_t2 (F := F) 𝒱 c bd arg0 harg0 arg1 harg1 arg2 harg2 arg3 harg3 arg4 harg4 arg5 harg5 arg6 harg6 arg7 harg7 arg8 harg8 arg9 harg9 v14 v148 (harg0.unread x0) X2 n
      = (piecesN (pc04 x0 s) n, piecesN (pc05 x0 s) n, piecesN (pc08 x0 s) n, piecesN (pc09 x0 s) n) := by
  subst hs
  induction n with
  | zero => rfl
  | succ n ih =>
    rw [pb_k0_t2.eq_2]; unfold pb_k0_t2Step; rw [piecesN, piecesN, piecesN, piecesN]
    split
    · rw [trip02_eq, ih]; rfl
    · rw [ih]

/-- The load of the weight's column maxima. -/
theorem ld1 : View.readAt (Elt F) arg1.view (Rect.unit (s := S1x4096) ![0, 0] S1x4096.size inb_S1x4096_S1x4096_0_0).toLoadRect (harg1.unread x1) = x1 :=
  (View.readAt_full (s := S1x4096) arg1.view _ inb_S1x4096_S1x4096_0_0).trans (harg1.read_unread x1)

/-- The stored factors. -/
theorem r_eq : kernelRun0_A.sl.r c arg0 harg0 arg1 harg1 arg2 harg2 arg3 harg3 arg4 harg4 arg5 harg5 arg6 harg6 arg7 harg7 arg8 harg8 arg9 harg9 x0 x1 = s0 x0 x1 := by
  unfold kernelRun0_A.sl.r s0
  rw [st01_eq, ld1]

/-- The read of the smoothing factors after their store gives them back, through any view of them. -/
theorem s0_read {κ' : Kind} {sp' : Space} (v : View sig κ' sp' S1x4096 .f32) :
    v.read (Elt F) (v.writes (Elt F) v.junk (kernelRun0_A.sl.H2_1 c arg0 harg0 arg1 harg1 arg2 harg2 arg3 harg3 arg4 harg4 arg5 harg5 arg6 harg6 arg7 harg7 arg8 harg8 arg9 harg9 x0 x1)) = s0 x0 x1 := by
  unfold kernelRun0_A.sl.H2_1
  refine (View.read_writes_full (s := S1x4096) v _ inb_S1x4096_S1x4096_0_0 _ []).trans ?_
  unfold s0
  rw [st01_eq, ld1]

theorem run2_eq : out0_A_2 c arg0 harg0 arg1 harg1 arg2 harg2 arg3 harg3 arg4 harg4 arg5 harg5 arg6 harg6 arg7 harg7 arg8 harg8 arg9 harg9 x0 x1 = s0 x0 x1 := by
  unfold out0_A_2 kernelRun0_A
  exact s0_read c arg0 harg0 arg1 harg1 arg2 harg2 arg3 harg3 arg4 harg4 arg5 harg5 arg6 harg6 arg7 harg7 arg8 harg8 arg9 harg9 x0 x1 VO0_2

theorem run4_eq : out0_A_4 c arg0 harg0 arg1 harg1 arg2 harg2 arg3 harg3 arg4 harg4 arg5 harg5 arg6 harg6 arg7 harg7 arg8 harg8 arg9 harg9 x0 x1 = View.canon (piecesN (pc04 x0 (s0 x0 x1)) k0_t2_loop.trips) := by
  unfold out0_A_4 kernelRun0_A
  dsimp only
  rw [pb02_eq (hs := s0_read c arg0 harg0 arg1 harg1 arg2 harg2 arg3 harg3 arg4 harg4 arg5 harg5 arg6 harg6 arg7 harg7 arg8 harg8 arg9 harg9 x0 x1 arg2.view)]
  exact View.read_writes_junk_eq_canon VO0_4 _

theorem run5_eq : out0_A_5 c arg0 harg0 arg1 harg1 arg2 harg2 arg3 harg3 arg4 harg4 arg5 harg5 arg6 harg6 arg7 harg7 arg8 harg8 arg9 harg9 x0 x1 = View.canon (piecesN (pc05 x0 (s0 x0 x1)) k0_t2_loop.trips) := by
  unfold out0_A_5 kernelRun0_A
  dsimp only
  rw [pb02_eq (hs := s0_read c arg0 harg0 arg1 harg1 arg2 harg2 arg3 harg3 arg4 harg4 arg5 harg5 arg6 harg6 arg7 harg7 arg8 harg8 arg9 harg9 x0 x1 arg2.view)]
  exact View.read_writes_junk_eq_canon VO0_5 _

theorem run8_eq : out0_A_8 c arg0 harg0 arg1 harg1 arg2 harg2 arg3 harg3 arg4 harg4 arg5 harg5 arg6 harg6 arg7 harg7 arg8 harg8 arg9 harg9 x0 x1 = View.canon (piecesN (pc08 x0 (s0 x0 x1)) k0_t2_loop.trips) := by
  unfold out0_A_8 kernelRun0_A
  dsimp only
  rw [pb02_eq (hs := s0_read c arg0 harg0 arg1 harg1 arg2 harg2 arg3 harg3 arg4 harg4 arg5 harg5 arg6 harg6 arg7 harg7 arg8 harg8 arg9 harg9 x0 x1 arg2.view)]
  exact View.read_writes_junk_eq_canon VO0_8 _

theorem run9_eq : out0_A_9 c arg0 harg0 arg1 harg1 arg2 harg2 arg3 harg3 arg4 harg4 arg5 harg5 arg6 harg6 arg7 harg7 arg8 harg8 arg9 harg9 x0 x1 = View.canon (piecesN (pc09 x0 (s0 x0 x1)) k0_t2_loop.trips) := by
  unfold out0_A_9 kernelRun0_A
  dsimp only
  rw [pb02_eq (hs := s0_read c arg0 harg0 arg1 harg1 arg2 harg2 arg3 harg3 arg4 harg4 arg5 harg5 arg6 harg6 arg7 harg7 arg8 harg8 arg9 harg9 x0 x1 arg2.view)]
  exact View.read_writes_junk_eq_canon VO0_9 _

/-- A row broadcast and transposed is a column. -/
theorem colT (s : FVec F S1x4096 .f32) (off : Fin 2 → ℕ) (h) (x : S128x128.Idx) (hb : off 1 + (x 0).val < 4096) (h0 : off 0 = 0) :
    transpose S128x128 [1, 0] (broadcastTo S128x128 (shapeCast S1x128 (extractStridedSlice S1x128 off s h) shapeCasts_S1x128_S1x128) broadcasts_S1x128_S128x128) transposes_S128x128_p1_0_S128x128 x = s (ix2 0 ⟨off 1 + (x 0).val, hb⟩) := by
  idx_vars x
  pointwise
  exact congrArg s (congrArg (ix2 · _) (Fin.ext h0))

theorem colA (s : FVec F S1x4096 .f32) (n : ℕ) (h) (x : S128x128.Idx) (a : Fin 4096) (ha : a.val = n + (x 0).val) :
    transpose S128x128 [1, 0] (broadcastTo S128x128 (shapeCast S1x128 (extractStridedSlice S1x128 ![0, n] s h) shapeCasts_S1x128_S1x128) broadcasts_S1x128_S128x128) transposes_S128x128_p1_0_S128x128 x = s (ix2 0 a) :=
  (colT s ![0, n] h x (lt_of_eq_of_lt ha.symm a.isLt) rfl).trans (congrArg s (congrArg (ix2 0) (Fin.ext ha.symm)))

/-- The first row of a block's transpose is its first column. -/
theorem rowT {e : EltTy} (X : Vec F S128x128 e) (x : S1x128.Idx) :
    extractStridedSlice S1x128 ![0, 0] (transpose S128x128 [1, 0] (shapeCast S128x128 X shapeCasts_S128x128_S128x128) transposes_S128x128_p1_0_S128x128) slices_S128x128_o0_0_S1x128 x = X (ix2 (x 1) 0) := by
  idx_vars x
  pointwise

theorem rowTI (X : FVec F S128x128 .f32) (x : S1x128.Idx) :
    fptosi 32 (extractStridedSlice S1x128 ![0, 0] (transpose S128x128 [1, 0] (shapeCast S128x128 X shapeCasts_S128x128_S128x128) transposes_S128x128_p1_0_S128x128) slices_S128x128_o0_0_S1x128) x = FloatOps.fptosi 32 (X (ix2 (x 1) 0)) :=
  by
  idx_vars x
  pointwise

theorem run3_eq (a : Fin 4096) (b : Fin 128) : out0_A_3 c arg0 harg0 arg1 harg1 arg2 harg2 arg3 harg3 arg4 harg4 arg5 harg5 arg6 harg6 arg7 harg7 arg8 harg8 arg9 harg9 x0 x1 (ix2 a b) = s0 x0 x1 (ix2 0 a) := by
  have hc := cover0_A_3 c arg0 harg0 arg1 harg1 arg2 harg2 arg3 harg3 arg4 harg4 arg5 harg5 arg6 harg6 arg7 harg7 arg8 harg8 arg9 harg9 x0 x1 (ix2 a b)
  unfold out0_A_3
  rw [View.read_writes_junk_eq_canon]
  revert hc
  unfold kernelRun0_A kernelRun0_A.sl.H3_32 kernelRun0_A.sl.r_1 kernelRun0_A.sl.r_2 kernelRun0_A.sl.r_3 kernelRun0_A.sl.r_4
  dsimp only
  rw [r_eq, ld1, st01_eq]
  change _ → View.canon _ _ = s0 x0 x1 _
  unfold s0
  generalize amax0N x0 _ = A
  intro hc
  canon_tiles x hx using hc
  all_goals open_payloads
  all_goals clear hc
  all_goals rw [colA (k0_pay13 A x1) _ _ x a]
  all_goals
    have ha : a.val = (ix2 a b 0).val := rfl
    rw [hx0] at ha
    generalize hv : (x 0).val = u at ha ⊢
    clear hv hx0 hx1 x0_lt x1_lt x
    omega

theorem rowIx (n : ℕ) (i : Fin 8) (j : Fin 128) (x : S1x128.Idx) (hi : i.val = n + (x 0).val) (hj : j.val = (x 1).val) :
    128 * n + 1 * (x 1).val = 128 * i.val + j.val := by
  have hx2 : (x 0).val < 1 := (x 0).isLt
  generalize (x 0).val = u at *
  generalize (x 1).val = v at *
  omega

theorem run6_eq (i : Fin 8) (j : Fin 128) : out0_A_6 c arg0 harg0 arg1 harg1 arg2 harg2 arg3 harg3 arg4 harg4 arg5 harg5 arg6 harg6 arg7 harg7 arg8 harg8 arg9 harg9 x0 x1 (ix2 i j) = View.canon (piecesN (pc08 x0 (s0 x0 x1)) k0_t2_loop.trips) (ix2 ⟨128 * i.val + j.val, by omega⟩ 0) := by
  unfold out0_A_6
  rw [View.read_writes_junk_eq_canon]
  unfold kernelRun0_A kernelRun0_A.sl.r_5 kernelRun0_A.sl.r_6 kernelRun0_A.sl.r_7
  dsimp only
  rw [pb02_eq (hs := s0_read c arg0 harg0 arg1 harg1 arg2 harg2 arg3 harg3 arg4 harg4 arg5 harg5 arg6 harg6 arg7 harg7 arg8 harg8 arg9 harg9 x0 x1 arg2.view)]
  dsimp only
  simp only [View.readCov_eq_canon']
  generalize piecesN _ _ = L
  canon_tiles x hx
  all_goals open_payloads
  all_goals refine (rowT _ x).trans (congrArg (View.canon L) (funext fun a => Fin.ext ?_))
  all_goals
    have hi : i.val = (ix2 i j 0).val := rfl
    have hj : j.val = (ix2 i j 1).val := rfl
    rw [hx0] at hi
    rw [hx1] at hj
    match a with
    | ⟨0, _⟩ =>
      first
      | exact rowIx _ i j x hi hj
      | exact rowIx 0 i j x (hi.trans (Nat.zero_add _).symm) hj
    | ⟨1, _⟩ => rfl

theorem run7_eq (i : Fin 8) (j : Fin 128) : out0_A_7 c arg0 harg0 arg1 harg1 arg2 harg2 arg3 harg3 arg4 harg4 arg5 harg5 arg6 harg6 arg7 harg7 arg8 harg8 arg9 harg9 x0 x1 (ix2 i j) = FloatOps.fptosi 32 (View.canon (piecesN (pc09 x0 (s0 x0 x1)) k0_t2_loop.trips) (ix2 ⟨128 * i.val + j.val, by omega⟩ 0)) := by
  unfold out0_A_7
  rw [View.read_writes_junk_eq_canon]
  unfold kernelRun0_A kernelRun0_A.sl.r_5 kernelRun0_A.sl.r_6 kernelRun0_A.sl.r_7
  dsimp only
  rw [pb02_eq (hs := s0_read c arg0 harg0 arg1 harg1 arg2 harg2 arg3 harg3 arg4 harg4 arg5 harg5 arg6 harg6 arg7 harg7 arg8 harg8 arg9 harg9 x0 x1 arg2.view)]
  dsimp only
  simp only [View.readCov_eq_canon']
  generalize piecesN _ _ = L
  canon_tiles x hx
  all_goals open_payloads
  all_goals refine (rowTI _ x).trans (congrArg (FloatOps.fptosi 32) (congrArg (View.canon L) (funext fun a => Fin.ext ?_)))
  all_goals
    have hi : i.val = (ix2 i j 0).val := rfl
    have hj : j.val = (ix2 i j 1).val := rfl
    rw [hx0] at hi
    rw [hx1] at hj
    match a with
    | ⟨0, _⟩ =>
      first
      | exact rowIx _ i j x hi hj
      | exact rowIx 0 i j x (hi.trans (Nat.zero_add _).symm) hj
    | ⟨1, _⟩ => rfl

end Loops0

end Cert.KernelIdeal.Hand
-- ==== Proof.KVal.lean ====
/- The kernel's arrays after each region, as functions of the region's operands. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.HeldBySlice
public import Idealize.ShloMosaic.Lib.Ring
public import Idealize.ShloMosaic.Lib.Tactic
public import Idealize.ShloMosaic.Lib.WordCmp

public import Idealize.ShloMosaic.Lib.Pointwise
public import Idealize.ShloMosaic.Lib.Pipeline.ValueKit
public import proofs.«01_k».proof.Proof.K0Run
public import proofs.«01_k».proof.Proof.KRun
public import proofs.«01_k».proof.Proof.K0Val

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 0's arrays -/

theorem ix0_0 : ∀ t : Fin cfg0.N, win0_0.index t (0 : Fin 2) = 0 ∧ win0_0.index t (1 : Fin 2) = 0 :=
  (by decide +kernel : ∀ t : Fin grid0.N, _)
theorem emb0_0 (t : Fin cfg0.N) (j : S1024x4096.Idx) : ((cfg0.win 0).blk t).view.emb j = j := by
  obtain ⟨e0, e1⟩ := ix0_0 t
  blk_ext [e0, e1]
theorem ix0_1 : ∀ t : Fin cfg0.N, win0_1.index t (0 : Fin 2) = 0 ∧ win0_1.index t (1 : Fin 2) = 0 :=
  (by decide +kernel : ∀ t : Fin grid0.N, _)
theorem emb0_1 (t : Fin cfg0.N) (j : S1x4096.Idx) : ((cfg0.win 1).blk t).view.emb j = j := by
  obtain ⟨e0, e1⟩ := ix0_1 t
  blk_ext [e0, e1]
theorem ix0_2 : ∀ t : Fin cfg0.N, win0_2.index t (0 : Fin 2) = 0 ∧ win0_2.index t (1 : Fin 2) = 0 :=
  (by decide +kernel : ∀ t : Fin grid0.N, _)
theorem emb0_2 (t : Fin cfg0.N) (j : S1x4096.Idx) : ((cfg0.win 2).blk t).view.emb j = j := by
  obtain ⟨e0, e1⟩ := ix0_2 t
  blk_ext [e0, e1]
theorem ix0_3 : ∀ t : Fin cfg0.N, win0_3.index t (0 : Fin 2) = 0 ∧ win0_3.index t (1 : Fin 2) = 0 :=
  (by decide +kernel : ∀ t : Fin grid0.N, _)
theorem emb0_3 (t : Fin cfg0.N) (j : S4096x128.Idx) : ((cfg0.win 3).blk t).view.emb j = j := by
  obtain ⟨e0, e1⟩ := ix0_3 t
  blk_ext [e0, e1]
theorem ix0_4 : ∀ t : Fin cfg0.N, win0_4.index t (0 : Fin 2) = 0 ∧ win0_4.index t (1 : Fin 2) = 0 :=
  (by decide +kernel : ∀ t : Fin grid0.N, _)
theorem emb0_4 (t : Fin cfg0.N) (j : S1024x4096.Idx) : ((cfg0.win 4).blk t).view.emb j = j := by
  obtain ⟨e0, e1⟩ := ix0_4 t
  blk_ext [e0, e1]
theorem ix0_5 : ∀ t : Fin cfg0.N, win0_5.index t (0 : Fin 2) = 0 ∧ win0_5.index t (1 : Fin 2) = 0 :=
  (by decide +kernel : ∀ t : Fin grid0.N, _)
theorem emb0_5 (t : Fin cfg0.N) (j : S1024x4096.Idx) : ((cfg0.win 5).blk t).view.emb j = j := by
  obtain ⟨e0, e1⟩ := ix0_5 t
  blk_ext [e0, e1]
theorem ix0_6 : ∀ t : Fin cfg0.N, win0_6.index t (0 : Fin 2) = 0 ∧ win0_6.index t (1 : Fin 2) = 0 :=
  (by decide +kernel : ∀ t : Fin grid0.N, _)
theorem emb0_6 (t : Fin cfg0.N) (j : S8x128.Idx) : ((cfg0.win 6).blk t).view.emb j = j := by
  obtain ⟨e0, e1⟩ := ix0_6 t
  blk_ext [e0, e1]
theorem ix0_7 : ∀ t : Fin cfg0.N, win0_7.index t (0 : Fin 2) = 0 ∧ win0_7.index t (1 : Fin 2) = 0 :=
  (by decide +kernel : ∀ t : Fin grid0.N, _)
theorem emb0_7 (t : Fin cfg0.N) (j : S8x128.Idx) : ((cfg0.win 7).blk t).view.emb j = j := by
  obtain ⟨e0, e1⟩ := ix0_7 t
  blk_ext [e0, e1]
theorem ix0_8 : ∀ t : Fin cfg0.N, win0_8.index t (0 : Fin 2) = 0 ∧ win0_8.index t (1 : Fin 2) = 0 :=
  (by decide +kernel : ∀ t : Fin grid0.N, _)
theorem emb0_8 (t : Fin cfg0.N) (j : S1024x128.Idx) : ((cfg0.win 8).blk t).view.emb j = j := by
  obtain ⟨e0, e1⟩ := ix0_8 t
  blk_ext [e0, e1]
theorem ix0_9 : ∀ t : Fin cfg0.N, win0_9.index t (0 : Fin 2) = 0 ∧ win0_9.index t (1 : Fin 2) = 0 :=
  (by decide +kernel : ∀ t : Fin grid0.N, _)
theorem emb0_9 (t : Fin cfg0.N) (j : S1024x128.Idx) : ((cfg0.win 9).blk t).view.emb j = j := by
  obtain ⟨e0, e1⟩ := ix0_9 t
  blk_ext [e0, e1]

theorem iblk0_0 (c : Dev nD) (t : Fin cfg0.N) : iblk0 V c 0 t = V c main_v0 := by
  unfold iblk0
  funext j; show V c main_v0 (((cfg0.win 0).blk t).view.emb j) = V c main_v0 j; rw [emb0_0]
theorem iblk0_1 (c : Dev nD) (t : Fin cfg0.N) : iblk0 V c 1 t = V c main_v1 := by
  unfold iblk0
  funext j; show V c main_v1 (((cfg0.win 1).blk t).view.emb j) = V c main_v1 j; rw [emb0_1]

/-- The row of the activation that a place of an (8, 128) block stands for. -/
def rowOf (i : S8x128.Idx) : Fin 1024 := ⟨128 * (i 0).val + (i 1).val, by
  have h0 : (i 0).val < 8 := (i 0).isLt
  have h1 : (i 1).val < 128 := (i 1).isLt
  omega⟩
def R2 (X0 : Vec F S1024x4096 .bf16) (X1 : Vec F S1x4096 .f32) : Vec F S1x4096 .f32 := s0 X0 X1
def R3 (X0 : Vec F S1024x4096 .bf16) (X1 : Vec F S1x4096 .f32) : Vec F S4096x128 .f32 := fun i => s0 X0 X1 (ix2 0 (i 0))
def R4 (X0 : Vec F S1024x4096 .bf16) (X1 : Vec F S1x4096 .f32) : Vec F S1024x4096 .i8 := View.canon (piecesN (pc04 X0 (s0 X0 X1)) k0_t2_loop.trips)
def R5 (X0 : Vec F S1024x4096 .bf16) (X1 : Vec F S1x4096 .f32) : Vec F S1024x4096 .bf16 := View.canon (piecesN (pc05 X0 (s0 X0 X1)) k0_t2_loop.trips)
def R6 (X0 : Vec F S1024x4096 .bf16) (X1 : Vec F S1x4096 .f32) : Vec F S8x128 .f32 := fun i => View.canon (piecesN (pc08 X0 (s0 X0 X1)) k0_t2_loop.trips) (ix2 (rowOf i) 0)
def R7 (X0 : Vec F S1024x4096 .bf16) (X1 : Vec F S1x4096 .f32) : Vec F S8x128 .i32 := fun i => FloatOps.fptosi 32 (View.canon (piecesN (pc09 X0 (s0 X0 X1)) k0_t2_loop.trips) (ix2 (rowOf i) 0))
def R8 (X0 : Vec F S1024x4096 .bf16) (X1 : Vec F S1x4096 .f32) : Vec F S1024x128 .f32 := View.canon (piecesN (pc08 X0 (s0 X0 X1)) k0_t2_loop.trips)
def R9 (X0 : Vec F S1024x4096 .bf16) (X1 : Vec F S1x4096 .f32) : Vec F S1024x128 .f32 := View.canon (piecesN (pc09 X0 (s0 X0 X1)) k0_t2_loop.trips)
theorem outs0_2 (c : Dev nD) (t : Fin cfg0.N) : (outsAt0 V c t).1 = R2 (V c main_v0) (V c main_v1) := by
  unfold outsAt0 R2
  dsimp only
  rw [run2_eq, iblk0_0, iblk0_1]
theorem arr0_2 (c : Dev nD) : (dat0 V c).arrAt 2 cfg0.N = R2 (V c main_v0) (V c main_v1) := by
  refine (dat0 V c).arrAt_eq_of_covers 2 _ (by decide +kernel) fun t hf y => ?_
  refine Eq.trans (b := (dat0 V c).after 2 t y) rfl ?_
  rw [after0_2, outs0_2]
  exact congrArg _ (emb0_2 t y).symm
theorem outs0_3 (c : Dev nD) (t : Fin cfg0.N) : (outsAt0 V c t).2.1 = R3 (V c main_v0) (V c main_v1) := by
  unfold outsAt0 R3
  dsimp only
  funext i
  idx_vars i
  rw [run3_eq, iblk0_0, iblk0_1]
theorem arr0_3 (c : Dev nD) : (dat0 V c).arrAt 3 cfg0.N = R3 (V c main_v0) (V c main_v1) := by
  refine (dat0 V c).arrAt_eq_of_covers 3 _ (by decide +kernel) fun t hf y => ?_
  refine Eq.trans (b := (dat0 V c).after 3 t y) rfl ?_
  rw [after0_3, outs0_3]
  exact congrArg _ (emb0_3 t y).symm
theorem outs0_4 (c : Dev nD) (t : Fin cfg0.N) : (outsAt0 V c t).2.2.1 = R4 (V c main_v0) (V c main_v1) := by
  unfold outsAt0 R4
  dsimp only
  rw [run4_eq, iblk0_0, iblk0_1]
theorem arr0_4 (c : Dev nD) : (dat0 V c).arrAt 4 cfg0.N = R4 (V c main_v0) (V c main_v1) := by
  refine (dat0 V c).arrAt_eq_of_covers 4 _ (by decide +kernel) fun t hf y => ?_
  refine Eq.trans (b := (dat0 V c).after 4 t y) rfl ?_
  rw [after0_4, outs0_4]
  exact congrArg _ (emb0_4 t y).symm
theorem outs0_5 (c : Dev nD) (t : Fin cfg0.N) : (outsAt0 V c t).2.2.2.1 = R5 (V c main_v0) (V c main_v1) := by
  unfold outsAt0 R5
  dsimp only
  rw [run5_eq, iblk0_0, iblk0_1]
theorem arr0_5 (c : Dev nD) : (dat0 V c).arrAt 5 cfg0.N = R5 (V c main_v0) (V c main_v1) := by
  refine (dat0 V c).arrAt_eq_of_covers 5 _ (by decide +kernel) fun t hf y => ?_
  refine Eq.trans (b := (dat0 V c).after 5 t y) rfl ?_
  rw [after0_5, outs0_5]
  exact congrArg _ (emb0_5 t y).symm
theorem outs0_6 (c : Dev nD) (t : Fin cfg0.N) : (outsAt0 V c t).2.2.2.2.1 = R6 (V c main_v0) (V c main_v1) := by
  unfold outsAt0 R6
  dsimp only
  funext i
  idx_vars i
  rw [run6_eq, iblk0_0, iblk0_1]
  rfl
theorem arr0_6 (c : Dev nD) : (dat0 V c).arrAt 6 cfg0.N = R6 (V c main_v0) (V c main_v1) := by
  refine (dat0 V c).arrAt_eq_of_covers 6 _ (by decide +kernel) fun t hf y => ?_
  refine Eq.trans (b := (dat0 V c).after 6 t y) rfl ?_
  rw [after0_6, outs0_6]
  exact congrArg _ (emb0_6 t y).symm
theorem outs0_7 (c : Dev nD) (t : Fin cfg0.N) : (outsAt0 V c t).2.2.2.2.2.1 = R7 (V c main_v0) (V c main_v1) := by
  unfold outsAt0 R7
  dsimp only
  funext i
  idx_vars i
  rw [run7_eq, iblk0_0, iblk0_1]
  rfl
theorem arr0_7 (c : Dev nD) : (dat0 V c).arrAt 7 cfg0.N = R7 (V c main_v0) (V c main_v1) := by
  refine (dat0 V c).arrAt_eq_of_covers 7 _ (by decide +kernel) fun t hf y => ?_
  refine Eq.trans (b := (dat0 V c).after 7 t y) rfl ?_
  rw [after0_7, outs0_7]
  exact congrArg _ (emb0_7 t y).symm
theorem outs0_8 (c : Dev nD) (t : Fin cfg0.N) : (outsAt0 V c t).2.2.2.2.2.2.1 = R8 (V c main_v0) (V c main_v1) := by
  unfold outsAt0 R8
  dsimp only
  rw [run8_eq, iblk0_0, iblk0_1]
theorem arr0_8 (c : Dev nD) : (dat0 V c).arrAt 8 cfg0.N = R8 (V c main_v0) (V c main_v1) := by
  refine (dat0 V c).arrAt_eq_of_covers 8 _ (by decide +kernel) fun t hf y => ?_
  refine Eq.trans (b := (dat0 V c).after 8 t y) rfl ?_
  rw [after0_8, outs0_8]
  exact congrArg _ (emb0_8 t y).symm
theorem outs0_9 (c : Dev nD) (t : Fin cfg0.N) : (outsAt0 V c t).2.2.2.2.2.2.2 = R9 (V c main_v0) (V c main_v1) := by
  unfold outsAt0 R9
  dsimp only
  rw [run9_eq, iblk0_0, iblk0_1]
theorem arr0_9 (c : Dev nD) : (dat0 V c).arrAt 9 cfg0.N = R9 (V c main_v0) (V c main_v1) := by
  refine (dat0 V c).arrAt_eq_of_covers 9 _ (by decide +kernel) fun t hf y => ?_
  refine Eq.trans (b := (dat0 V c).after 9 t y) rfl ?_
  rw [after0_9, outs0_9]
  exact congrArg _ (emb0_9 t y).symm

/-! ## Region 1's arrays -/

/-- The columns of the weight that point `t` reads. -/
def wcol (W : Vec F S4096x11008 .bf16) (t : ℕ) (ht : t < 43) : Vec F S4096x256 .bf16 := fun y =>
  W (ix2 (y 0) ⟨256 * t + (y 1).val, by have h1 : (y 1).val < 256 := (y 1).isLt; omega⟩)
theorem ix1_0 : ∀ t : Fin cfg1.N, win1_0.index t (0 : Fin 2) = 0 ∧ win1_0.index t (1 : Fin 2) = t.val :=
  (by decide +kernel : ∀ t : Fin grid1.N, _)
theorem ix1_5 : ∀ t : Fin cfg1.N, win1_5.index t (0 : Fin 2) = 0 ∧ win1_5.index t (1 : Fin 2) = t.val :=
  (by decide +kernel : ∀ t : Fin grid1.N, _)
theorem ix1_6 : ∀ t : Fin cfg1.N, win1_6.index t (0 : Fin 2) = 0 ∧ win1_6.index t (1 : Fin 2) = t.val :=
  (by decide +kernel : ∀ t : Fin grid1.N, _)
theorem ix1_7 : ∀ t : Fin cfg1.N, win1_7.index t (0 : Fin 2) = 0 ∧ win1_7.index t (1 : Fin 2) = t.val :=
  (by decide +kernel : ∀ t : Fin grid1.N, _)
theorem ix1_1 : ∀ t : Fin cfg1.N, win1_1.index t (0 : Fin 2) = 0 ∧ win1_1.index t (1 : Fin 2) = 0 :=
  (by decide +kernel : ∀ t : Fin grid1.N, _)
theorem iblk1_1 (c : Dev nD) (t : Fin cfg1.N) : iblk1 V c 1 t = V c main_v2_1 := by
  unfold iblk1
  obtain ⟨e0, e1⟩ := ix1_1 t
  funext j
  show V c main_v2_1 (((cfg1.win 1).blk t).view.emb j) = V c main_v2_1 j
  refine congrArg _ ?_
  blk_ext [e0, e1]
theorem ix1_2 : ∀ t : Fin cfg1.N, win1_2.index t (0 : Fin 2) = 0 ∧ win1_2.index t (1 : Fin 2) = 0 :=
  (by decide +kernel : ∀ t : Fin grid1.N, _)
theorem iblk1_2 (c : Dev nD) (t : Fin cfg1.N) : iblk1 V c 2 t = V c main_v2_3 := by
  unfold iblk1
  obtain ⟨e0, e1⟩ := ix1_2 t
  funext j
  show V c main_v2_3 (((cfg1.win 2).blk t).view.emb j) = V c main_v2_3 j
  refine congrArg _ ?_
  blk_ext [e0, e1]
theorem ix1_3 : ∀ t : Fin cfg1.N, win1_3.index t (0 : Fin 2) = 0 ∧ win1_3.index t (1 : Fin 2) = 0 :=
  (by decide +kernel : ∀ t : Fin grid1.N, _)
theorem iblk1_3 (c : Dev nD) (t : Fin cfg1.N) : iblk1 V c 3 t = V c main_v2_6 := by
  unfold iblk1
  obtain ⟨e0, e1⟩ := ix1_3 t
  funext j
  show V c main_v2_6 (((cfg1.win 3).blk t).view.emb j) = V c main_v2_6 j
  refine congrArg _ ?_
  blk_ext [e0, e1]
theorem ix1_4 : ∀ t : Fin cfg1.N, win1_4.index t (0 : Fin 2) = 0 ∧ win1_4.index t (1 : Fin 2) = 0 :=
  (by decide +kernel : ∀ t : Fin grid1.N, _)
theorem iblk1_4 (c : Dev nD) (t : Fin cfg1.N) : iblk1 V c 4 t = V c main_v2_7 := by
  unfold iblk1
  obtain ⟨e0, e1⟩ := ix1_4 t
  funext j
  show V c main_v2_7 (((cfg1.win 4).blk t).view.emb j) = V c main_v2_7 j
  refine congrArg _ ?_
  blk_ext [e0, e1]
theorem lt43 (t : Fin cfg1.N) : t.val < 43 := lt_of_lt_of_eq t.isLt (by decide +kernel : grid1.N = 43)
theorem iblk1_0 (c : Dev nD) (t : Fin cfg1.N) : iblk1 V c 0 t = wcol (V c main_arg1) t.val (lt43 t) := by
  unfold iblk1 wcol
  obtain ⟨e0, e1⟩ := ix1_0 t
  funext j
  show V c main_arg1 (((cfg1.win 0).blk t).view.emb j) = V c main_arg1 _
  refine congrArg _ ?_
  idx_vars j
  blk_ext [e0, e1]
def q5 (W : Vec F S4096x11008 .bf16) (SB : Vec F S4096x128 .f32) (XB : Vec F S1024x4096 .bf16) (SC ZP : Vec F S1024x128 .f32) (k : Fin 1024) (i : Fin 11008) : Elt F .bf16 :=
  out6 (wcol W (i.val / 256) (by omega)) SB XB SC ZP (ix2 k ⟨i.val % 256, Nat.mod_lt _ (by omega)⟩)
def Q5 (W : Vec F S4096x11008 .bf16) (SB : Vec F S4096x128 .f32) (XB : Vec F S1024x4096 .bf16) (SC ZP : Vec F S1024x128 .f32) : Vec F S1024x11008 .bf16 := fun y =>
  q5 W SB XB SC ZP (y 0) (y 1)
theorem q5_at (W : Vec F S4096x11008 .bf16) (SB : Vec F S4096x128 .f32) (XB : Vec F S1024x4096 .bf16) (SC ZP : Vec F S1024x128 .f32) (k k' : Fin 1024) (i : Fin 11008) (t : ℕ) (ht : t < 43) (y1 : Fin 256) (hk : k'.val = k.val) (hi : i.val = 256 * t + y1.val) :
    out6 (wcol W t ht) SB XB SC ZP (ix2 k y1) = q5 W SB XB SC ZP k' i := by
  obtain rfl : k' = k := Fin.ext hk
  have hd : t = i.val / 256 := by omega
  subst hd
  unfold q5
  exact congrArg _ (congrArg (ix2 k') (Fin.ext (by show y1.val = i.val % 256; omega)))
theorem arr1_5 (c : Dev nD) : (dat1 V c).arrAt 5 cfg1.N = Q5 (V c main_arg1) (V c main_v2_1) (V c main_v2_3) (V c main_v2_6) (V c main_v2_7) := by
  refine (dat1 V c).arrAt_eq_of_covers 5 _ (by decide +kernel) fun t hf y => ?_
  refine Eq.trans (b := (dat1 V c).after 5 t y) rfl ?_
  rw [after1_5, iblk1_0, iblk1_1, iblk1_2, iblk1_3, iblk1_4]
  obtain ⟨e0, e1⟩ := ix1_5 t
  have ht := lt43 t
  unfold Q5 q5
  idx_vars y
  have h0 : ((((cfg1.win 5).blk t).view.emb (ix2 y0 y1)) 0).val = y0.val := by
    blk_simp [e0]; try simp
  have h1 : ((((cfg1.win 5).blk t).view.emb (ix2 y0 y1)) 1).val = 256 * t.val + y1.val := by
    blk_simp [e1]; simp; try omega
  exact q5_at _ _ _ _ _ _ _ _ t.val ht y1 h0 h1
def q6 (W : Vec F S4096x11008 .bf16) (SB : Vec F S4096x128 .f32) (k : Fin 4096) (i : Fin 11008) : Elt F .i8 :=
  out7 (wcol W (i.val / 256) (by omega)) SB (ix2 k ⟨i.val % 256, Nat.mod_lt _ (by omega)⟩)
def Q6 (W : Vec F S4096x11008 .bf16) (SB : Vec F S4096x128 .f32) : Vec F S4096x11008 .i8 := fun y =>
  q6 W SB (y 0) (y 1)
theorem q6_at (W : Vec F S4096x11008 .bf16) (SB : Vec F S4096x128 .f32) (k k' : Fin 4096) (i : Fin 11008) (t : ℕ) (ht : t < 43) (y1 : Fin 256) (hk : k'.val = k.val) (hi : i.val = 256 * t + y1.val) :
    out7 (wcol W t ht) SB (ix2 k y1) = q6 W SB k' i := by
  obtain rfl : k' = k := Fin.ext hk
  have hd : t = i.val / 256 := by omega
  subst hd
  unfold q6
  exact congrArg _ (congrArg (ix2 k') (Fin.ext (by show y1.val = i.val % 256; omega)))
theorem arr1_6 (c : Dev nD) : (dat1 V c).arrAt 6 cfg1.N = Q6 (V c main_arg1) (V c main_v2_1) := by
  refine (dat1 V c).arrAt_eq_of_covers 6 _ (by decide +kernel) fun t hf y => ?_
  refine Eq.trans (b := (dat1 V c).after 6 t y) rfl ?_
  rw [after1_6, iblk1_0, iblk1_1]
  obtain ⟨e0, e1⟩ := ix1_6 t
  have ht := lt43 t
  unfold Q6 q6
  idx_vars y
  have h0 : ((((cfg1.win 6).blk t).view.emb (ix2 y0 y1)) 0).val = y0.val := by
    blk_simp [e0]; try simp
  have h1 : ((((cfg1.win 6).blk t).view.emb (ix2 y0 y1)) 1).val = 256 * t.val + y1.val := by
    blk_simp [e1]; simp; try omega
  exact q6_at _ _ _ _ _ t.val ht y1 h0 h1
def q7 (W : Vec F S4096x11008 .bf16) (SB : Vec F S4096x128 .f32) (k : Fin 1) (i : Fin 11008) : Elt F .f32 :=
  out8 (wcol W (i.val / 256) (by omega)) SB (ix2 k ⟨i.val % 256, Nat.mod_lt _ (by omega)⟩)
def Q7 (W : Vec F S4096x11008 .bf16) (SB : Vec F S4096x128 .f32) : Vec F S1x11008 .f32 := fun y =>
  q7 W SB (y 0) (y 1)
theorem q7_at (W : Vec F S4096x11008 .bf16) (SB : Vec F S4096x128 .f32) (k k' : Fin 1) (i : Fin 11008) (t : ℕ) (ht : t < 43) (y1 : Fin 256) (hk : k'.val = k.val) (hi : i.val = 256 * t + y1.val) :
    out8 (wcol W t ht) SB (ix2 k y1) = q7 W SB k' i := by
  obtain rfl : k' = k := Fin.ext hk
  have hd : t = i.val / 256 := by omega
  subst hd
  unfold q7
  exact congrArg _ (congrArg (ix2 k') (Fin.ext (by show y1.val = i.val % 256; omega)))
theorem arr1_7 (c : Dev nD) : (dat1 V c).arrAt 7 cfg1.N = Q7 (V c main_arg1) (V c main_v2_1) := by
  refine (dat1 V c).arrAt_eq_of_covers 7 _ (by decide +kernel) fun t hf y => ?_
  refine Eq.trans (b := (dat1 V c).after 7 t y) rfl ?_
  rw [after1_7, iblk1_0, iblk1_1]
  obtain ⟨e0, e1⟩ := ix1_7 t
  have ht := lt43 t
  unfold Q7 q7
  idx_vars y
  have h0 : ((((cfg1.win 7).blk t).view.emb (ix2 y0 y1)) 0).val = y0.val := by
    blk_simp [e0]; try simp
  have h1 : ((((cfg1.win 7).blk t).view.emb (ix2 y0 y1)) 1).val = 256 * t.val + y1.val := by
    blk_simp [e1]; simp; try omega
  exact q7_at _ _ _ _ _ t.val ht y1 h0 h1

/-! ## The results at the end of the run -/

variable (m : (ℓ : Loc nD τ sig) → Buf (Elt F) ℓ) (ρ : Dev nD → PrngReg)

/-- The activation, its leading axes joined. -/
def X0 (c : Dev nD) : Vec F S1024x4096 .bf16 := shapeCast S1024x4096 (m ((c : Thread nD τ).loc main_arg0)) shapeCasts_S2x512x4096_S1024x4096
/-- The weight's column maxima, as a row. -/
def X1 (c : Dev nD) : Vec F S1x4096 .f32 := shapeCast S1x4096 (m ((c : Thread nD τ).loc main_arg2)) shapeCasts_S4096_S1x4096

theorem V1_v0 (c : Dev nD) : V1 m ρ c main_v0 = X0 m c := by
  show StableHlo.after hostOps0 (W0 m ρ c) (Proc.devRef .tc main_v0) = _
  unfold X0
  entry_read
  rfl
theorem V1_v1 (c : Dev nD) : V1 m ρ c main_v1 = X1 m c := by
  show StableHlo.after hostOps0 (W0 m ρ c) (Proc.devRef .tc main_v1) = _
  unfold X1
  entry_read
  rfl
theorem V2_2 (c : Dev nD) : W2 m ρ c (Proc.devRef .tc main_v2_0) = R2 (X0 m c) (X1 m c) :=
  (W2_arr m ρ c 2).trans ((arr0_2 (V1 m ρ) c).trans (by rw [V1_v0, V1_v1]))
theorem V2_3 (c : Dev nD) : W2 m ρ c (Proc.devRef .tc main_v2_1) = R3 (X0 m c) (X1 m c) :=
  (W2_arr m ρ c 3).trans ((arr0_3 (V1 m ρ) c).trans (by rw [V1_v0, V1_v1]))
theorem V2_4 (c : Dev nD) : W2 m ρ c (Proc.devRef .tc main_v2_2) = R4 (X0 m c) (X1 m c) :=
  (W2_arr m ρ c 4).trans ((arr0_4 (V1 m ρ) c).trans (by rw [V1_v0, V1_v1]))
theorem V2_5 (c : Dev nD) : W2 m ρ c (Proc.devRef .tc main_v2_3) = R5 (X0 m c) (X1 m c) :=
  (W2_arr m ρ c 5).trans ((arr0_5 (V1 m ρ) c).trans (by rw [V1_v0, V1_v1]))
theorem V2_6 (c : Dev nD) : W2 m ρ c (Proc.devRef .tc main_v2_4) = R6 (X0 m c) (X1 m c) :=
  (W2_arr m ρ c 6).trans ((arr0_6 (V1 m ρ) c).trans (by rw [V1_v0, V1_v1]))
theorem V2_7 (c : Dev nD) : W2 m ρ c (Proc.devRef .tc main_v2_5) = R7 (X0 m c) (X1 m c) :=
  (W2_arr m ρ c 7).trans ((arr0_7 (V1 m ρ) c).trans (by rw [V1_v0, V1_v1]))
theorem V2_8 (c : Dev nD) : W2 m ρ c (Proc.devRef .tc main_v2_6) = R8 (X0 m c) (X1 m c) :=
  (W2_arr m ρ c 8).trans ((arr0_8 (V1 m ρ) c).trans (by rw [V1_v0, V1_v1]))
theorem V2_9 (c : Dev nD) : W2 m ρ c (Proc.devRef .tc main_v2_7) = R9 (X0 m c) (X1 m c) :=
  (W2_arr m ρ c 9).trans ((arr0_9 (V1 m ρ) c).trans (by rw [V1_v0, V1_v1]))
theorem V2_w (c : Dev nD) : W2 m ρ c (Proc.devRef .tc main_arg1) = m ((c : Thread nD τ).loc main_arg1) :=
  W2_args m ρ c main_arg1 (by decide)
theorem V3_5 (c : Dev nD) : W3 m ρ c (Proc.devRef .tc main_v3_0) = Q5 (m ((c : Thread nD τ).loc main_arg1)) (R3 (X0 m c) (X1 m c)) (R5 (X0 m c) (X1 m c)) (R8 (X0 m c) (X1 m c)) (R9 (X0 m c) (X1 m c)) := by
  refine (W3_arr m ρ c 5).trans ((arr1_5 (V2 m ρ) c).trans ?_)
  have hw := V2_w m ρ c
  have h3 := V2_3 m ρ c
  have h5 := V2_5 m ρ c
  have h8 := V2_8 m ρ c
  have h9 := V2_9 m ρ c
  show Q5 (W2 m ρ c (Proc.devRef .tc main_arg1)) (W2 m ρ c (Proc.devRef .tc main_v2_1)) (W2 m ρ c (Proc.devRef .tc main_v2_3)) (W2 m ρ c (Proc.devRef .tc main_v2_6)) (W2 m ρ c (Proc.devRef .tc main_v2_7)) = _
  rw [hw, h3, h5, h8, h9]
theorem V3_6 (c : Dev nD) : W3 m ρ c (Proc.devRef .tc main_v3_1) = Q6 (m ((c : Thread nD τ).loc main_arg1)) (R3 (X0 m c) (X1 m c)) := by
  refine (W3_arr m ρ c 6).trans ((arr1_6 (V2 m ρ) c).trans ?_)
  have hw := V2_w m ρ c
  have h3 := V2_3 m ρ c
  have h5 := V2_5 m ρ c
  have h8 := V2_8 m ρ c
  have h9 := V2_9 m ρ c
  show Q6 (W2 m ρ c (Proc.devRef .tc main_arg1)) (W2 m ρ c (Proc.devRef .tc main_v2_1)) = _
  rw [hw, h3]
theorem V3_7 (c : Dev nD) : W3 m ρ c (Proc.devRef .tc main_v3_2) = Q7 (m ((c : Thread nD τ).loc main_arg1)) (R3 (X0 m c) (X1 m c)) := by
  refine (W3_arr m ρ c 7).trans ((arr1_7 (V2 m ρ) c).trans ?_)
  have hw := V2_w m ρ c
  have h3 := V2_3 m ρ c
  have h5 := V2_5 m ρ c
  have h8 := V2_8 m ρ c
  have h9 := V2_9 m ρ c
  show Q7 (W2 m ρ c (Proc.devRef .tc main_arg1)) (W2 m ρ c (Proc.devRef .tc main_v2_1)) = _
  rw [hw, h3]
theorem V3_r2 (c : Dev nD) : W3 m ρ c (Proc.devRef .tc main_v2_0) = R2 (X0 m c) (X1 m c) :=
  (W3_of m ρ c main_v2_0 (by decide +kernel)).trans (V2_2 m ρ c)
theorem V3_r4 (c : Dev nD) : W3 m ρ c (Proc.devRef .tc main_v2_2) = R4 (X0 m c) (X1 m c) :=
  (W3_of m ρ c main_v2_2 (by decide +kernel)).trans (V2_4 m ρ c)
theorem V3_r6 (c : Dev nD) : W3 m ρ c (Proc.devRef .tc main_v2_4) = R6 (X0 m c) (X1 m c) :=
  (W3_of m ρ c main_v2_4 (by decide +kernel)).trans (V2_6 m ρ c)
theorem V3_r7 (c : Dev nD) : W3 m ρ c (Proc.devRef .tc main_v2_5) = R7 (X0 m c) (X1 m c) :=
  (W3_of m ρ c main_v2_5 (by decide +kernel)).trans (V2_7 m ρ c)
theorem E_v31 (c : Dev nD) : W4 m ρ c (Proc.devRef .tc main_v3_1) = Q6 (m ((c : Thread nD τ).loc main_arg1)) (R3 (X0 m c) (X1 m c)) :=
  (W4_of m ρ c main_v3_1 (by decide)).trans (V3_6 m ρ c)
theorem E_v4 (c : Dev nD) : W4 m ρ c (Proc.devRef .tc main_v4) = shapeCast S2x512x11008 (Q5 (m ((c : Thread nD τ).loc main_arg1)) (R3 (X0 m c) (X1 m c)) (R5 (X0 m c) (X1 m c)) (R8 (X0 m c) (X1 m c)) (R9 (X0 m c) (X1 m c))) shapeCasts_S1024x11008_S2x512x11008 := by
  have h : W4 m ρ c (Proc.devRef .tc main_v4) = shapeCast S2x512x11008 (W3 m ρ c (Proc.devRef .tc main_v3_0)) shapeCasts_S1024x11008_S2x512x11008 := by
    show StableHlo.after hostOps2 (W3 m ρ c) (Proc.devRef .tc main_v4) = _
    entry_read
    try rfl
  exact h.trans (congrArg (fun v => shapeCast S2x512x11008 v shapeCasts_S1024x11008_S2x512x11008) (V3_5 m ρ c))
theorem E_v5 (c : Dev nD) : W4 m ρ c (Proc.devRef .tc main_v5) = shapeCast S4096 (R2 (X0 m c) (X1 m c)) shapeCasts_S1x4096_S4096 := by
  have h : W4 m ρ c (Proc.devRef .tc main_v5) = shapeCast S4096 (W3 m ρ c (Proc.devRef .tc main_v2_0)) shapeCasts_S1x4096_S4096 := by
    show StableHlo.after hostOps2 (W3 m ρ c) (Proc.devRef .tc main_v5) = _
    entry_read
    try rfl
  exact h.trans (congrArg (fun v => shapeCast S4096 v shapeCasts_S1x4096_S4096) (V3_r2 m ρ c))
theorem E_v6 (c : Dev nD) : W4 m ρ c (Proc.devRef .tc main_v6) = shapeCast S11008 (Q7 (m ((c : Thread nD τ).loc main_arg1)) (R3 (X0 m c) (X1 m c))) shapeCasts_S1x11008_S11008 := by
  have h : W4 m ρ c (Proc.devRef .tc main_v6) = shapeCast S11008 (W3 m ρ c (Proc.devRef .tc main_v3_2)) shapeCasts_S1x11008_S11008 := by
    show StableHlo.after hostOps2 (W3 m ρ c) (Proc.devRef .tc main_v6) = _
    entry_read
    try rfl
  exact h.trans (congrArg (fun v => shapeCast S11008 v shapeCasts_S1x11008_S11008) (V3_7 m ρ c))
theorem E_v7 (c : Dev nD) : W4 m ρ c (Proc.devRef .tc main_v7) = shapeCast S2x512x4096 (R4 (X0 m c) (X1 m c)) shapeCasts_S1024x4096_S2x512x4096 := by
  have h : W4 m ρ c (Proc.devRef .tc main_v7) = shapeCast S2x512x4096 (W3 m ρ c (Proc.devRef .tc main_v2_2)) shapeCasts_S1024x4096_S2x512x4096 := by
    show StableHlo.after hostOps2 (W3 m ρ c) (Proc.devRef .tc main_v7) = _
    entry_read
    try rfl
  exact h.trans (congrArg (fun v => shapeCast S2x512x4096 v shapeCasts_S1024x4096_S2x512x4096) (V3_r4 m ρ c))
theorem E_v8 (c : Dev nD) : W4 m ρ c (Proc.devRef .tc main_v8) = shapeCast S2x512 (R6 (X0 m c) (X1 m c)) shapeCasts_S8x128_S2x512 := by
  have h : W4 m ρ c (Proc.devRef .tc main_v8) = shapeCast S2x512 (W3 m ρ c (Proc.devRef .tc main_v2_4)) shapeCasts_S8x128_S2x512 := by
    show StableHlo.after hostOps2 (W3 m ρ c) (Proc.devRef .tc main_v8) = _
    entry_read
    try rfl
  exact h.trans (congrArg (fun v => shapeCast S2x512 v shapeCasts_S8x128_S2x512) (V3_r6 m ρ c))
theorem E_v9 (c : Dev nD) : W4 m ρ c (Proc.devRef .tc main_v9) = shapeCast S2x512 (R7 (X0 m c) (X1 m c)) shapeCasts_S8x128_S2x512 := by
  have h : W4 m ρ c (Proc.devRef .tc main_v9) = shapeCast S2x512 (W3 m ρ c (Proc.devRef .tc main_v2_5)) shapeCasts_S8x128_S2x512 := by
    show StableHlo.after hostOps2 (W3 m ρ c) (Proc.devRef .tc main_v9) = _
    entry_read
    try rfl
  exact h.trans (congrArg (fun v => shapeCast S2x512 v shapeCasts_S8x128_S2x512) (V3_r7 m ρ c))

end Cert.KernelIdeal.Hand
-- ==== Proof.Spec.lean ====
/- The quantised product in plain formulas over the extended reals, and the arithmetic facts both programs use. -/
module

public import Idealize.ShloMosaic.Lib.Pointwise
public import Idealize.ShloMosaic.Lib.Pipeline.ValueKit
public import Idealize.ShloMosaic.Lib.IdealHost

@[expose] public section

noncomputable section

namespace Cert.Spec

open Idealize.ShloMosaic

/-! ## The constants -/

abbrev cEps : EReal := Ideal.ofBits .f32 0x3727C5AC#32
abbrev cHalf : EReal := Ideal.ofBits .f32 0x3F000000#32
abbrev c127 : EReal := Ideal.ofBits .f32 0x42FE0000#32
abbrev cm127 : EReal := Ideal.ofBits .f32 0xC2FE0000#32
abbrev c255 : EReal := Ideal.ofBits .f32 0x437F0000#32

theorem cHalf_eq : cHalf = ((1 / 2 : ℝ) : EReal) := by
  simp [Ideal.ofBits, Ideal.ieee, -EReal.coe_mul]; norm_num
theorem c127_eq : c127 = (((127 : ℤ) : ℝ) : EReal) := by
  simp [Ideal.ofBits, Ideal.ieee, -EReal.coe_mul]; norm_num
theorem cm127_eq : cm127 = (((-127 : ℤ) : ℝ) : EReal) := by
  simp [Ideal.ofBits, Ideal.ieee, -EReal.coe_mul]; norm_num
theorem c255_eq : c255 = (((255 : ℤ) : ℝ) : EReal) := by
  simp [Ideal.ofBits, Ideal.ieee, -EReal.coe_mul]; norm_num
theorem cEps_nonneg : 0 ≤ cEps := by
  have h : cEps = ((10995116 * (2 : ℝ) ^ (-40 : ℤ) : ℝ) : EReal) := by
    simp [Ideal.ofBits, Ideal.ieee, -EReal.coe_mul]
  rw [h]
  exact_mod_cast (by positivity : (0 : ℝ) ≤ 10995116 * (2 : ℝ) ^ (-40 : ℤ))
theorem negInf_eq : Ideal.ofBits .f32 0xFF800000#32 = ⊥ := by simp [Ideal.ofBits, Ideal.ieee]
theorem posInf_eq : Ideal.ofBits .f32 0x7F800000#32 = ⊤ := by simp [Ideal.ofBits, Ideal.ieee]

/-! ## The formulas -/

/-- The magnitude. -/
abbrev absE (x : EReal) : EReal := max x (-x)
/-- Rounding to the nearest integer, ties to even. -/
abbrev rnd (x : EReal) : EReal := Ideal.liftRound Ideal.roundHalfEven x

/-- A channel's smoothing factor, from the activation's column and the weight's maximum. -/
def smooth (x : Fin 1024 → EReal) (m : EReal) : EReal :=
  Ideal.div (Ideal.pow (max (⨆ i, absE (x i)) cEps) cHalf) (Ideal.pow (max m cEps) cHalf)

/-- A weight column's scale. -/
def wScale (f : Fin 4096 → EReal) : EReal :=
  if (⨆ k, absE (f k)) = 0 then 1 else Ideal.div (⨆ k, absE (f k)) c127
/-- A weight's code. -/
def wCode (f : Fin 4096 → EReal) (k : Fin 4096) : EReal := min c127 (max cm127 (rnd (Ideal.div (f k) (wScale f))))

/-- The lower and the upper end of an activation row's range. -/
def lo (g : Fin 4096 → EReal) : EReal := min (⨅ k, g k) 0
def hi (g : Fin 4096 → EReal) : EReal := max (⨆ k, g k) 0
/-- An activation row's scale. -/
def xScale (g : Fin 4096 → EReal) : EReal := if hi g = lo g then 1 else Ideal.div (hi g - lo g) c255
/-- An activation row's zero point. -/
def zeroPt (g : Fin 4096 → EReal) : EReal := min c255 (max 0 (rnd (Ideal.div (0 - lo g) (xScale g))))
/-- An activation's code. -/
def xCode (g : Fin 4096 → EReal) (k : Fin 4096) : EReal :=
  min c255 (max 0 (rnd (Ideal.div (g k) (xScale g)) + zeroPt g))

/-- An entry of the product, from the activation's row and the weight's column. -/
def prod (g f : Fin 4096 → EReal) : EReal :=
  ((∑ k, xCode g k * wCode f k) - zeroPt g * ∑ k, wCode f k) * xScale g * wScale f

/-! ## The square root is the power one half -/

theorem sqrt_eq_pow (x : EReal) (hx : 0 ≤ x) : Ideal.sqrt x = Ideal.pow x cHalf := by
  rw [cHalf_eq]
  induction x with
  | bot => exact absurd hx (by simp)
  | top =>
    have h : (0 : EReal) < ((1 / 2 : ℝ) : EReal) := by exact_mod_cast (by norm_num : (0 : ℝ) < 1 / 2)
    rw [Ideal.sqrt_top, Ideal.pow_top, if_pos h]
  | coe r =>
    have hr : ¬ r < 0 := not_lt.mpr (by exact_mod_cast hx)
    rw [Ideal.sqrt_coe, Ideal.pow_coe_coe, if_neg hr, Real.sqrt_eq_rpow]
    rfl

theorem absE_nonneg (x : EReal) : 0 ≤ absE x := by
  induction x with
  | bot => simp
  | top => simp
  | coe r =>
    rcases le_total 0 r with h | h
    · exact le_max_of_le_left (by exact_mod_cast h)
    · exact le_max_of_le_right (by rw [← EReal.coe_neg]; exact_mod_cast (neg_nonneg.mpr h))

/-! ## Codes are integers -/

/-- An integer or an infinity: what a rounding gives. -/
def IL (x : EReal) : Prop := x = ⊥ ∨ x = ⊤ ∨ ∃ n : ℤ, x = ((n : ℝ) : EReal)

theorem IL_rnd (x : EReal) : IL (rnd x) := by
  unfold rnd
  induction x with
  | bot => exact Or.inl rfl
  | top => exact Or.inr (Or.inl rfl)
  | coe r => exact Or.inr (Or.inr ⟨_, rfl⟩)

theorem IL_add (x : EReal) (h : IL x) (n : ℤ) : IL (x + ((n : ℝ) : EReal)) := by
  rcases h with rfl | rfl | ⟨m, rfl⟩
  · exact Or.inl (by simp)
  · exact Or.inr (Or.inl (by simp))
  · exact Or.inr (Or.inr ⟨m + n, by rw [← EReal.coe_add]; push_cast; rfl⟩)

theorem clip_int (a b : ℤ) (hab : a ≤ b) (x : EReal) (h : IL x) :
    ∃ n : ℤ, a ≤ n ∧ n ≤ b ∧ min (((b : ℤ) : ℝ) : EReal) (max (((a : ℤ) : ℝ) : EReal) x) = ((n : ℝ) : EReal) := by
  rcases h with rfl | rfl | ⟨m, rfl⟩
  · refine ⟨a, le_rfl, hab, ?_⟩
    rw [max_eq_left bot_le, min_eq_right]
    exact_mod_cast hab
  · refine ⟨b, hab, le_rfl, ?_⟩
    rw [max_eq_right le_top, min_eq_left le_top]
  · refine ⟨min b (max a m), le_min hab (le_max_left _ _), min_le_left _ _, ?_⟩
    have e1 : max (((a : ℤ) : ℝ) : EReal) (((m : ℤ) : ℝ) : EReal) = (((max a m : ℤ) : ℝ) : EReal) := by
      rcases le_total a m with h | h
      · rw [max_eq_right h, max_eq_right]; exact_mod_cast h
      · rw [max_eq_left h, max_eq_left]; exact_mod_cast h
    rw [e1]
    rcases le_total b (max a m) with h | h
    · rw [min_eq_left h, min_eq_left]; exact_mod_cast h
    · rw [min_eq_right h, min_eq_right]; exact_mod_cast h

theorem clip_w (x : EReal) (h : IL x) : ∃ n : ℤ, -127 ≤ n ∧ n ≤ 127 ∧ min c127 (max cm127 x) = ((n : ℝ) : EReal) := by
  rw [c127_eq, cm127_eq]
  exact clip_int (-127) 127 (by omega) x h
theorem clip_x (x : EReal) (h : IL x) : ∃ n : ℤ, 0 ≤ n ∧ n ≤ 255 ∧ min c255 (max 0 x) = ((n : ℝ) : EReal) := by
  rw [c255_eq]
  have h0 : (0 : EReal) = (((0 : ℤ) : ℝ) : EReal) := by simp
  rw [h0]
  exact clip_int 0 255 (by omega) x h

theorem wCode_int (f : Fin 4096 → EReal) (k : Fin 4096) : ∃ n : ℤ, -127 ≤ n ∧ n ≤ 127 ∧ wCode f k = ((n : ℝ) : EReal) :=
  clip_w _ (IL_rnd _)
theorem zeroPt_int (g : Fin 4096 → EReal) : ∃ n : ℤ, 0 ≤ n ∧ n ≤ 255 ∧ zeroPt g = ((n : ℝ) : EReal) :=
  clip_x _ (IL_rnd _)
theorem xCode_int (g : Fin 4096 → EReal) (k : Fin 4096) : ∃ n : ℤ, 0 ≤ n ∧ n ≤ 255 ∧ xCode g k = ((n : ℝ) : EReal) := by
  obtain ⟨m, _, _, hm⟩ := zeroPt_int g
  unfold xCode
  rw [hm]
  exact clip_x _ (IL_add _ (IL_rnd _) m)

theorem toInt_int (lo hi n : ℤ) (h1 : lo ≤ n) (h2 : n ≤ hi) : Ideal.toIntClamped lo hi ((n : ℝ) : EReal) = n := by
  rw [Ideal.toIntClamped_coe]
  simp only [Int.floor_intCast, Int.ceil_intCast, ite_self]
  omega

/-- A weight's code goes through eight signed bits unchanged. -/
theorem sint8 (n : ℤ) (h1 : -127 ≤ n) (h2 : n ≤ 127) : (((Ideal.fptosi 8 ((n : ℝ) : EReal)).toInt : ℝ) : EReal) = ((n : ℝ) : EReal) := by
  unfold Ideal.fptosi
  rw [toInt_int _ _ n (by norm_num; omega) (by norm_num; omega)]
  rw [BitVec.toInt_ofInt_eq_self (by omega) (by norm_num; omega) (by norm_num; omega)]
/-- A zero point goes through thirty-two signed bits unchanged. -/
theorem sint32 (n : ℤ) (h1 : 0 ≤ n) (h2 : n ≤ 255) : (((Ideal.fptosi 32 ((n : ℝ) : EReal)).toInt : ℝ) : EReal) = ((n : ℝ) : EReal) := by
  unfold Ideal.fptosi
  rw [toInt_int _ _ n (by norm_num; omega) (by norm_num; omega)]
  rw [BitVec.toInt_ofInt_eq_self (by omega) (by norm_num; omega) (by norm_num; omega)]
/-- An activation's code goes through eight unsigned bits unchanged. -/
theorem uint8 (n : ℤ) (h1 : 0 ≤ n) (h2 : n ≤ 255) : (((Ideal.fptoui 8 ((n : ℝ) : EReal)).toNat : ℝ) : EReal) = ((n : ℝ) : EReal) := by
  unfold Ideal.fptoui
  rw [toInt_int _ _ n (by norm_num; omega) (by norm_num; omega)]
  obtain ⟨m, rfl⟩ := Int.eq_ofNat_of_zero_le h1
  rw [BitVec.ofInt_natCast, BitVec.toNat_ofNat, Nat.mod_eq_of_lt (by omega)]
  norm_cast
/-- The low eight of thirty-two signed bits of a code are its eight unsigned bits. -/
theorem trunc8 (n : ℤ) (h1 : 0 ≤ n) (h2 : n ≤ 255) : (Ideal.fptosi 32 ((n : ℝ) : EReal)).setWidth 8 = Ideal.fptoui 8 ((n : ℝ) : EReal) := by
  unfold Ideal.fptosi Ideal.fptoui
  rw [toInt_int _ _ n (by norm_num; omega) (by norm_num; omega), toInt_int _ _ n (by norm_num; omega) (by norm_num; omega)]
  obtain ⟨m, rfl⟩ := Int.eq_ofNat_of_zero_le h1
  rw [BitVec.ofInt_natCast, BitVec.ofInt_natCast]
  apply BitVec.eq_of_toNat_eq
  rw [BitVec.toNat_setWidth, BitVec.toNat_ofNat, BitVec.toNat_ofNat]
  omega

/-! ## Maxima, minima -/

section Red

variable {s t : Shape} {axes : List (Fin s.rank)}

theorem redMax_le (v : FVec Ideal s .f32) (h : s.Reduces axes t) (hφ) (hacc) (j : t.Idx) (z : EReal) :
    multiReduction .maximumf axes t v 0xFF800000#32 h hφ hacc j ≤ z ↔ ∀ i, h.drop i = j → v i ≤ z := by
  rw [multiReduction_maximumf_eq_fold]
  refine (Finset.fold_max_le (b := Ideal.ofBits .f32 0xFF800000#32) (f := v) z).trans ?_
  rw [negInf_eq]
  simp

theorem le_redMin (v : FVec Ideal s .f32) (h : s.Reduces axes t) (hφ) (hacc) (j : t.Idx) (z : EReal) :
    z ≤ multiReduction .minimumf axes t v 0x7F800000#32 h hφ hacc j ↔ ∀ i, h.drop i = j → z ≤ v i := by
  rw [multiReduction_minimumf_eq_fold]
  refine (Finset.le_fold_min (b := Ideal.ofBits .f32 0x7F800000#32) (f := v) z).trans ?_
  rw [posInf_eq]
  simp

end Red

end Cert.Spec
-- ==== Proof.K0Ideal.lean ====
/- Region 0's arrays, element by element, are the quantised product's formulas. -/
module

public import proofs.«01_k».proof.Proof.Spec
public import proofs.«01_k».proof.Proof.KVal

@[expose] public section

noncomputable section

namespace Cert.KernelIdeal.Hand

open Cert.KernelIdeal Cert.KernelIdeal.Gen Idealize.ShloMosaic Cert.Spec

/-! ## Reductions of a chunk of 64 rows -/

theorem red64 (v : FVec Ideal S64x4096 .f32) (hφ) (hacc) (k : Fin 4096) :
    multiReduction .maximumf [0] S4096 v 0xFF800000#32 reduces_S64x4096_S4096 hφ hacc (ix1 k) = ⨆ r : Fin 64, v (ix2 r k) := by
  refine eq_of_forall_ge_iff fun z => ?_
  rw [redMax_le, iSup_le_iff]
  constructor
  · intro h i
    exact h _ (funext fun b => by match b with | ⟨0, _⟩ => exact Fin.ext rfl)
  · intro h i hi
    have hn : (i 1).val = k.val := congrArg (fun j => (j 0).val) hi
    have e : i = ix2 (i 0) k := by
      funext a
      match a with
      | ⟨0, _⟩ => rfl
      | ⟨1, _⟩ => exact Fin.ext hn
    rw [e]
    exact h (i 0)

theorem redRowMax (v : FVec Ideal S64x4096 .f32) (hφ) (hacc) (r : Fin 64) :
    multiReduction .maximumf [1] S64 v 0xFF800000#32 reduces_S64x4096_S64 hφ hacc (ix1 r) = ⨆ k : Fin 4096, v (ix2 r k) := by
  refine eq_of_forall_ge_iff fun z => ?_
  rw [redMax_le, iSup_le_iff]
  constructor
  · intro h i
    exact h _ (funext fun b => by match b with | ⟨0, _⟩ => exact Fin.ext rfl)
  · intro h i hi
    have hn : (i 0).val = r.val := congrArg (fun j => (j 0).val) hi
    have e : i = ix2 r (i 1) := by
      funext a
      match a with
      | ⟨0, _⟩ => exact Fin.ext hn
      | ⟨1, _⟩ => rfl
    rw [e]
    exact h (i 1)

theorem redRowMin (v : FVec Ideal S64x4096 .f32) (hφ) (hacc) (r : Fin 64) :
    multiReduction .minimumf [1] S64 v 0x7F800000#32 reduces_S64x4096_S64 hφ hacc (ix1 r) = ⨅ k : Fin 4096, v (ix2 r k) := by
  refine eq_of_forall_le_iff fun z => ?_
  rw [le_redMin, le_iInf_iff]
  constructor
  · intro h i
    exact h _ (funext fun b => by match b with | ⟨0, _⟩ => exact Fin.ext rfl)
  · intro h i hi
    have hn : (i 0).val = r.val := congrArg (fun j => (j 0).val) hi
    have e : i = ix2 r (i 1) := by
      funext a
      match a with
      | ⟨0, _⟩ => exact Fin.ext hn
      | ⟨1, _⟩ => rfl
    rw [e]
    exact h (i 1)

/-! ## The chunks -/

theorem trips01 : k0_t1_loop.trips = 16 := by decide +kernel
theorem trips02 : k0_t2_loop.trips = 16 := by decide +kernel
theorem off01_eq : ∀ k : Fin k0_t1_loop.trips, k0_off1 k = ![64 * k.val, 0] := by decide +kernel
theorem off02_eq : ∀ k : Fin k0_t2_loop.trips, k0_off2 k = ![64 * k.val, 0] := by decide +kernel
theorem off03_eq : ∀ k : Fin k0_t2_loop.trips, k0_off3 k = ![64 * k.val, 0] := by decide +kernel

variable (x0 : Vec Ideal S1024x4096 .bf16) (x1 : Vec Ideal S1x4096 .f32)

/-- Row `r` of chunk `n`. -/
abbrev row64 (n : ℕ) (hn : n < 16) (r : Fin 64) : Fin 1024 := ⟨64 * n + r.val, by omega⟩

theorem rows1_at (k : Fin k0_t1_loop.trips) (hk : k.val < 16) (r : Fin 64) (c : Fin 4096) :
    View.ld x0 (Rect.unit (s := S1024x4096) (k0_off1 k) S64x4096.size (k0_off1_inb k)) (ix2 r c) = x0 (ix2 (row64 k.val hk r) c) := by
  refine View.ld_unit_apply_of _ _ _ _ _ _ fun a => ?_
  match a with
  | ⟨0, _⟩ => exact (congrArg (· + r.val) (congrFun (off01_eq k) 0)).symm
  | ⟨1, _⟩ => exact (Nat.zero_add _).symm.trans (congrArg (· + c.val) (congrFun (off01_eq k) 1)).symm

theorem rows0_at (k : Fin k0_t2_loop.trips) (hk : k.val < 16) (r : Fin 64) (c : Fin 4096) :
    rows0 x0 k (ix2 r c) = x0 (ix2 (row64 k.val hk r) c) := by
  refine View.ld_unit_apply_of _ _ _ _ _ _ fun a => ?_
  match a with
  | ⟨0, _⟩ => exact (congrArg (· + r.val) (congrFun (off02_eq k) 0)).symm
  | ⟨1, _⟩ => exact (Nat.zero_add _).symm.trans (congrArg (· + c.val) (congrFun (off02_eq k) 1)).symm

/-! ## The smoothing factors -/

theorem pay11_at (r : Fin 64) (c : Fin 4096) : k0_pay11 (F := Ideal) (ix2 r c) = 0 := by
  unfold k0_pay11
  pointwise

theorem pay12_at (acc : FVec Ideal S64x4096 .bf16) (v : Vec Ideal S64x4096 .bf16) (r : Fin 64) (c : Fin 4096) :
    k0_pay12 (F := Ideal) acc v (ix2 r c) = max (acc (ix2 r c)) (absE (v (ix2 r c))) := by
  unfold k0_pay12
  pointwise
  rfl

/-- The running maximum is the least bound of zero and of the magnitudes seen. -/
theorem amax0_le (n : ℕ) (hn : n ≤ 16) (r : Fin 64) (c : Fin 4096) (z : EReal) :
    amax0N x0 n (ix2 r c) ≤ z ↔ 0 ≤ z ∧ ∀ j (hj : j < n), absE (x0 (ix2 (row64 j (by omega) r) c)) ≤ z := by
  induction n with
  | zero =>
    rw [amax0N, pay11_at]
    exact ⟨fun h => ⟨h, fun j hj => absurd hj (Nat.not_lt_zero _)⟩, fun h => h.1⟩
  | succ n ih =>
    rw [amax0N, dif_pos (by rw [trips01]; omega), pay12_at, max_le_iff, ih (by omega), rows1_at x0 _ (by show n < 16; omega)]
    constructor
    · rintro ⟨⟨h0, h⟩, h'⟩
      refine ⟨h0, fun j hj => ?_⟩
      rcases Nat.lt_succ_iff_lt_or_eq.mp hj with hj | rfl
      · exact h j hj
      · exact h'
    · rintro ⟨h0, h⟩
      exact ⟨⟨h0, fun j hj => h j (by omega)⟩, h n (by omega)⟩

theorem amax0_eq (c : Fin 4096) : (⨆ r : Fin 64, amax0N x0 16 (ix2 r c)) = ⨆ i : Fin 1024, absE (x0 (ix2 i c)) := by
  refine eq_of_forall_ge_iff fun z => ?_
  rw [iSup_le_iff, iSup_le_iff]
  constructor
  · intro h i
    have hi := ((amax0_le x0 16 le_rfl ⟨i.val % 64, Nat.mod_lt _ (by omega)⟩ c z).mp (h _)).2 (i.val / 64) (by omega)
    have e : row64 (i.val / 64) (by omega) ⟨i.val % 64, Nat.mod_lt _ (by omega)⟩ = i :=
      Fin.ext (by show 64 * (i.val / 64) + i.val % 64 = i.val; omega)
    rwa [e] at hi
  · intro h r
    exact (amax0_le x0 16 le_rfl r c z).mpr ⟨(absE_nonneg _).trans (h 0), fun j hj => h _⟩

theorem tail13 (M : FVec Ideal S4096 .f32) (v : Vec Ideal S1x4096 .f32) (k : Fin 4096) :
    divf (sqrt (maximumf (shapeCast S1x4096 M shapeCasts_S4096_S1x4096) (broadcast S1x4096 (FloatOps.ofBits .f32 0x3727C5AC#32))))
        (sqrt (maximumf (shapeCast S1x4096 v shapeCasts_S1x4096_S1x4096) (broadcast S1x4096 (FloatOps.ofBits .f32 0x3727C5AC#32)))) (ix2 0 k)
      = Ideal.div (Ideal.sqrt (max (M (ix1 k)) cEps)) (Ideal.sqrt (max (v (ix2 0 k)) cEps)) := by
  pointwise

/-- The smoothing factor of channel `k`. -/
def sK (k : Fin 4096) : EReal := smooth (fun i => x0 (ix2 i k)) (x1 (ix2 0 k))

theorem s0_at (k : Fin 4096) : s0 x0 x1 (ix2 0 k) = sK x0 x1 k := by
  unfold s0 k0_pay13 sK smooth
  refine (tail13 _ x1 k).trans ?_
  have h := (red64 (extf .f32 (amax0N x0 k0_t1_loop.trips) bitsLt_bf16_f32) (.inl rfl) rfl k).trans
    ((congrArg (fun n => ⨆ r : Fin 64, amax0N x0 n (ix2 r k)) trips01).trans (amax0_eq x0 k))
  rw [h, sqrt_eq_pow _ (cEps_nonneg.trans (le_max_right _ _)), sqrt_eq_pow _ (cEps_nonneg.trans (le_max_right _ _))]

/-! ## A chunk's quantisation -/

section Chunk

variable (v : Vec Ideal S64x4096 .bf16) (s : Vec Ideal S1x4096 .f32)

/-- Row `r` of the smoothed chunk. -/
def gC (r : Fin 64) (k : Fin 4096) : EReal := Ideal.div (v (ix2 r k)) (s (ix2 0 k))

theorem p5_at (r : Fin 64) (k : Fin 4096) : k0_pay5 (F := Ideal) v s (ix2 r k) = gC v s r k := by
  unfold k0_pay5 gC
  pointwise

theorem tail6 (M : FVec Ideal S64 .f32) (r : Fin 64) :
    minimumf (shapeCast S64x1 M shapeCasts_S64_S64x1) (broadcast S64x1 (FloatOps.ofBits .f32 0x00000000#32)) (ix2 r 0) = min (M (ix1 r)) 0 := by
  pointwise

theorem p6_at (r : Fin 64) : k0_pay6 (F := Ideal) v s (ix2 r 0) = lo (gC v s r) := by
  unfold k0_pay6 lo
  refine (tail6 _ r).trans ?_
  have h := (redRowMin (k0_pay5 (F := Ideal) v s) (.inl rfl) rfl r).trans (iInf_congr fun k => p5_at v s r k)
  rw [h]

theorem tail7 (M : FVec Ideal S64 .f32) (L : FVec Ideal S64x1 .f32) (r : Fin 64) :
    select (cmpf .oeq (maximumf (shapeCast S64x1 M shapeCasts_S64_S64x1) (broadcast S64x1 (FloatOps.ofBits .f32 0x00000000#32))) L) (broadcast S64x1 (FloatOps.ofBits .f32 0x3F800000#32))
        (divf (subf (maximumf (shapeCast S64x1 M shapeCasts_S64_S64x1) (broadcast S64x1 (FloatOps.ofBits .f32 0x00000000#32))) L) (broadcast S64x1 (FloatOps.ofBits .f32 0x437F0000#32))) (ix2 r 0)
      = if max (M (ix1 r)) 0 = L (ix2 r 0) then 1 else Ideal.div (max (M (ix1 r)) 0 - L (ix2 r 0)) c255 := by
  pointwise

theorem p7_at (r : Fin 64) : k0_pay7 (F := Ideal) v s (ix2 r 0) = xScale (gC v s r) := by
  unfold k0_pay7 xScale hi
  refine (tail7 _ _ r).trans ?_
  have h := (redRowMax (k0_pay5 (F := Ideal) v s) (.inl rfl) rfl r).trans (iSup_congr fun k => p5_at v s r k)
  rw [h, p6_at]

theorem tail8 (L S : FVec Ideal S64x1 .f32) (r : Fin 64) :
    minimumf (broadcast S64x1 (FloatOps.ofBits .f32 0x437F0000#32)) (maximumf (broadcast S64x1 (FloatOps.ofBits .f32 0x00000000#32))
        (roundeven (divf (subf (broadcast S64x1 (FloatOps.ofBits .f32 0x00000000#32)) L) S))) (ix2 r 0)
      = min c255 (max 0 (rnd (Ideal.div (0 - L (ix2 r 0)) (S (ix2 r 0))))) := by
  pointwise

theorem p8_at (r : Fin 64) : k0_pay8 (F := Ideal) v s (ix2 r 0) = zeroPt (gC v s r) := by
  unfold k0_pay8 zeroPt
  refine (tail8 _ _ r).trans ?_
  rw [p6_at, p7_at]

theorem tail9 (g : FVec Ideal S64x4096 .f32) (S Z : FVec Ideal S64x1 .f32) (r : Fin 64) (k : Fin 4096) :
    minimumf (broadcast S64x4096 (FloatOps.ofBits .f32 0x437F0000#32)) (maximumf (broadcast S64x4096 (FloatOps.ofBits .f32 0x00000000#32))
        (addf (roundeven (divf g (broadcastTo S64x4096 S broadcasts_S64x1_S64x4096))) (broadcastTo S64x4096 Z broadcasts_S64x1_S64x4096))) (ix2 r k)
      = min c255 (max 0 (rnd (Ideal.div (g (ix2 r k)) (S (ix2 r 0))) + Z (ix2 r 0))) := by
  pointwise

theorem p9_at (r : Fin 64) (k : Fin 4096) : k0_pay9 (F := Ideal) v s (ix2 r k) = xCode (gC v s r) k := by
  unfold k0_pay9 xCode
  refine (tail9 _ _ _ r k).trans ?_
  rw [p5_at, p7_at, p8_at]

theorem p10_at (r : Fin 64) (k : Fin 4096) : k0_pay10 (F := Ideal) v s (ix2 r k) = Ideal.fptoui 8 (xCode (gC v s r) k) := by
  unfold k0_pay10
  show (Ideal.fptosi 32 (k0_pay9 (F := Ideal) v s (ix2 r k))).setWidth 8 = _
  rw [p9_at]
  obtain ⟨n, h1, h2, e⟩ := xCode_int (gC v s r) k
  rw [e]
  exact trunc8 n h1 h2

theorem p49_at (S : FVec Ideal S64x1 .f32) (r : Fin 64) (j : Fin 128) : k0_pay49 (F := Ideal) S (ix2 r j) = S (ix2 r 0) := by
  unfold k0_pay49
  pointwise
theorem p50_at (S : FVec Ideal S64x1 .f32) (r : Fin 64) (j : Fin 128) : k0_pay50 (F := Ideal) S (ix2 r j) = S (ix2 r 0) := by
  unfold k0_pay50
  pointwise

end Chunk

/-! ## The arrays -/

/-- Row `i` of the smoothed activation. -/
def gK (i : Fin 1024) (k : Fin 4096) : EReal := Ideal.div (x0 (ix2 i k)) (sK x0 x1 k)

theorem gC_eq (k : Fin k0_t2_loop.trips) (hk : k.val < 16) (r : Fin 64) : gC (rows0 x0 k) (s0 x0 x1) r = gK x0 x1 (row64 k.val hk r) := by
  funext j
  unfold gC gK
  rw [rows0_at x0 k hk, s0_at]

theorem lt16 (k : Fin k0_t2_loop.trips) : k.val < 16 := lt_of_lt_of_eq k.isLt trips02
theorem row_lt0 (i : Fin 1024) : i.val / 64 < k0_t2_loop.trips := by rw [trips02]; omega

theorem cover2 (y : S1024x4096.Idx) (h : (y 0).val / 64 < k0_t2_loop.trips) :
    y ∈ (Rect.unit (s := S1024x4096) (k0_off2 ⟨(y 0).val / 64, h⟩) S64x4096.size (k0_off2_inb _)).set := by
  rw [Rect.mem_set_unit]
  intro a
  rw [off02_eq]
  have h1 : (y 1).val < 4096 := (y 1).isLt
  match a with
  | ⟨0, _⟩ => show 64 * ((y 0).val / 64) ≤ (y 0).val ∧ (y 0).val < 64 * ((y 0).val / 64) + 64; omega
  | ⟨1, _⟩ => show 0 ≤ (y 1).val ∧ (y 1).val < 0 + 4096; omega
theorem cover3 (y : S1024x128.Idx) (h : (y 0).val / 64 < k0_t2_loop.trips) :
    y ∈ (Rect.unit (s := S1024x128) (k0_off3 ⟨(y 0).val / 64, h⟩) S64x128.size (k0_off3_inb _)).set := by
  rw [Rect.mem_set_unit]
  intro a
  rw [off03_eq]
  have h1 : (y 1).val < 128 := (y 1).isLt
  match a with
  | ⟨0, _⟩ => show 64 * ((y 0).val / 64) ≤ (y 0).val ∧ (y 0).val < 64 * ((y 0).val / 64) + 64; omega
  | ⟨1, _⟩ => show 0 ≤ (y 1).val ∧ (y 1).val < 0 + 128; omega

/-- Where a chunk's rectangle puts its index. -/
theorem emb2 (k : Fin k0_t2_loop.trips) (r : Fin 64) (c : Fin 4096) :
    (Rect.unit (s := S1024x4096) (k0_off2 k) S64x4096.size (k0_off2_inb k)).emb (ix2 r c : S64x4096.Idx) = ix2 (row64 k.val (lt16 k) r) c := by
  funext a
  match a with
  | ⟨0, _⟩ => exact Fin.ext ((Rect.idx_unit_val _ _ _ _ 0).trans (congrArg (· + r.val) (congrFun (off02_eq k) 0)))
  | ⟨1, _⟩ => exact Fin.ext ((Rect.idx_unit_val _ _ _ _ 1).trans ((congrArg (· + c.val) (congrFun (off02_eq k) 1)).trans (Nat.zero_add _)))

/-- What the chunks' stores leave, when each leaves its rows of one function. -/
theorem canon2 {e : EltTy} (p : Fin k0_t2_loop.trips → Vec Ideal S64x4096 e) (G : Fin 1024 → Fin 4096 → Elt Ideal e)
    (h : ∀ k r c, p k (ix2 r c) = G (row64 k.val (lt16 k) r) c) (i : Fin 1024) (c : Fin 4096) :
    View.canon (Val := Elt Ideal) (piecesN (fun k => (⟨Rect.unit (s := S1024x4096) (k0_off2 k) S64x4096.size (k0_off2_inb k), p k⟩ : View.Piece (Elt Ideal) S1024x4096 e)) k0_t2_loop.trips) (ix2 i c) = G i c := by
  have hp : ∀ k (x : S64x4096.Idx), p k x = (fun y : S1024x4096.Idx => G (y 0) (y 1)) ((Rect.unit (s := S1024x4096) (k0_off2 k) S64x4096.size (k0_off2_inb k)).emb x) := fun k x => by
    idx_vars x
    exact (h k x0 x1).trans (congrArg (fun y : S1024x4096.Idx => G (y 0) (y 1)) (emb2 k x0 x1)).symm
  refine View.canon_apply_of_pieces (fun y : S1024x4096.Idx => G (y 0) (y 1)) _ ?_ (ix2 i c) ⟨_, mem_piecesN _ ⟨_, row_lt0 i⟩ _ (row_lt0 i), cover2 (ix2 i c) (row_lt0 i)⟩
  intro q hq
  obtain ⟨n, rfl⟩ := of_mem_piecesN _ _ _ hq
  exact hp n

/-- Where a chunk's rectangle puts its index. -/
theorem emb3 (k : Fin k0_t2_loop.trips) (r : Fin 64) (c : Fin 128) :
    (Rect.unit (s := S1024x128) (k0_off3 k) S64x128.size (k0_off3_inb k)).emb (ix2 r c : S64x128.Idx) = ix2 (row64 k.val (lt16 k) r) c := by
  funext a
  match a with
  | ⟨0, _⟩ => exact Fin.ext ((Rect.idx_unit_val _ _ _ _ 0).trans (congrArg (· + r.val) (congrFun (off03_eq k) 0)))
  | ⟨1, _⟩ => exact Fin.ext ((Rect.idx_unit_val _ _ _ _ 1).trans ((congrArg (· + c.val) (congrFun (off03_eq k) 1)).trans (Nat.zero_add _)))

/-- What the chunks' stores leave, when each leaves its rows of one function. -/
theorem canon3 {e : EltTy} (p : Fin k0_t2_loop.trips → Vec Ideal S64x128 e) (G : Fin 1024 → Fin 128 → Elt Ideal e)
    (h : ∀ k r c, p k (ix2 r c) = G (row64 k.val (lt16 k) r) c) (i : Fin 1024) (c : Fin 128) :
    View.canon (Val := Elt Ideal) (piecesN (fun k => (⟨Rect.unit (s := S1024x128) (k0_off3 k) S64x128.size (k0_off3_inb k), p k⟩ : View.Piece (Elt Ideal) S1024x128 e)) k0_t2_loop.trips) (ix2 i c) = G i c := by
  have hp : ∀ k (x : S64x128.Idx), p k x = (fun y : S1024x128.Idx => G (y 0) (y 1)) ((Rect.unit (s := S1024x128) (k0_off3 k) S64x128.size (k0_off3_inb k)).emb x) := fun k x => by
    idx_vars x
    exact (h k x0 x1).trans (congrArg (fun y : S1024x128.Idx => G (y 0) (y 1)) (emb3 k x0 x1)).symm
  refine View.canon_apply_of_pieces (fun y : S1024x128.Idx => G (y 0) (y 1)) _ ?_ (ix2 i c) ⟨_, mem_piecesN _ ⟨_, row_lt0 i⟩ _ (row_lt0 i), cover3 (ix2 i c) (row_lt0 i)⟩
  intro q hq
  obtain ⟨n, rfl⟩ := of_mem_piecesN _ _ _ hq
  exact hp n

theorem R4_at (i : Fin 1024) (k : Fin 4096) : R4 x0 x1 (ix2 i k) = Ideal.fptoui 8 (xCode (gK x0 x1 i) k) :=
  canon2 (e := .i8) (fun k => k0_pay10 (F := Ideal) (rows0 x0 k) (s0 x0 x1)) (fun i k => Ideal.fptoui 8 (xCode (gK x0 x1 i) k))
    (fun n r c => (p10_at _ _ r c).trans (by rw [gC_eq x0 x1 n (lt16 n)])) i k
theorem R5_at (i : Fin 1024) (k : Fin 4096) : R5 x0 x1 (ix2 i k) = xCode (gK x0 x1 i) k :=
  canon2 (e := .bf16) (fun k => k0_pay48 (k0_pay9 (F := Ideal) (rows0 x0 k) (s0 x0 x1))) (fun i k => xCode (gK x0 x1 i) k)
    (fun n r c => (p9_at _ _ r c).trans (by rw [gC_eq x0 x1 n (lt16 n)])) i k
theorem R8_at (i : Fin 1024) (j : Fin 128) : R8 x0 x1 (ix2 i j) = xScale (gK x0 x1 i) :=
  canon3 (e := .f32) (fun k => k0_pay49 (k0_pay7 (F := Ideal) (rows0 x0 k) (s0 x0 x1))) (fun i _ => xScale (gK x0 x1 i))
    (fun n r c => (p49_at _ r c).trans ((p7_at _ _ r).trans (by rw [gC_eq x0 x1 n (lt16 n)]))) i j
theorem R9_at (i : Fin 1024) (j : Fin 128) : R9 x0 x1 (ix2 i j) = zeroPt (gK x0 x1 i) :=
  canon3 (e := .f32) (fun k => k0_pay50 (k0_pay8 (F := Ideal) (rows0 x0 k) (s0 x0 x1))) (fun i _ => zeroPt (gK x0 x1 i))
    (fun n r c => (p50_at _ r c).trans ((p8_at _ _ r).trans (by rw [gC_eq x0 x1 n (lt16 n)]))) i j

theorem R3_at (k : Fin 4096) (j : Fin 128) : R3 x0 x1 (ix2 k j) = sK x0 x1 k := s0_at x0 x1 k
theorem R6_at (a : Fin 8) (b : Fin 128) : R6 x0 x1 (ix2 a b) = xScale (gK x0 x1 (rowOf (ix2 a b))) := R8_at x0 x1 _ 0
theorem R7_at (a : Fin 8) (b : Fin 128) : R7 x0 x1 (ix2 a b) = Ideal.fptosi 32 (zeroPt (gK x0 x1 (rowOf (ix2 a b)))) :=
  congrArg (Ideal.fptosi 32) (R9_at x0 x1 _ 0)

end Cert.KernelIdeal.Hand
-- ==== Proof.K1Ideal.lean ====
/- Region 1's blocks, element by element, are the quantised product's formulas. -/
module

public import proofs.«01_k».proof.Proof.Spec
public import proofs.«01_k».proof.Proof.K1Run

@[expose] public section

noncomputable section

namespace Cert.KernelIdeal.Hand

open Cert.KernelIdeal Cert.KernelIdeal.Gen Idealize.ShloMosaic Cert.Spec

/-! ## Reductions and the product of a block -/

theorem red32 (v : FVec Ideal S32x8x256 .f32) (hφ) (hacc) (b : Fin 8) (j : Fin 256) (z : EReal) :
    multiReduction .maximumf [0] S8x256 v 0xFF800000#32 reduces_S32x8x256_S8x256 hφ hacc (ix2 b j) ≤ z ↔ ∀ a : Fin 32, v (ix3 a b j) ≤ z := by
  rw [redMax_le]
  constructor
  · intro h i
    exact h _ (funext fun b => by match b with | ⟨0, _⟩ => exact Fin.ext rfl | ⟨1, _⟩ => exact Fin.ext rfl)
  · intro h i hi
    have hb : (i 1).val = b.val := congrArg (fun j => (j 0).val) hi
    have hj : (i 2).val = j.val := congrArg (fun j => (j 1).val) hi
    have e : i = ix3 (i 0) b j := by
      funext a
      match a with
      | ⟨0, _⟩ => rfl
      | ⟨1, _⟩ => exact Fin.ext hb
      | ⟨2, _⟩ => exact Fin.ext hj
    rw [e]
    exact h (i 0)

theorem red8 (v : FVec Ideal S8x256 .f32) (hφ) (hacc) (j : Fin 256) :
    multiReduction .maximumf [0] S256 v 0xFF800000#32 reduces_S8x256_S256 hφ hacc (ix1 j) = ⨆ b : Fin 8, v (ix2 b j) := by
  refine eq_of_forall_ge_iff fun z => ?_
  rw [redMax_le, iSup_le_iff]
  constructor
  · intro h i
    exact h _ (funext fun b => by match b with | ⟨0, _⟩ => exact Fin.ext rfl)
  · intro h i hi
    have hn : (i 1).val = j.val := congrArg (fun j => (j 0).val) hi
    have e : i = ix2 (i 0) j := by
      funext a
      match a with
      | ⟨0, _⟩ => rfl
      | ⟨1, _⟩ => exact Fin.ext hn
    rw [e]
    exact h (i 0)

theorem sum32 (v : FVec Ideal S32x8x256 .f32) (hφ) (hacc) (b : Fin 8) (j : Fin 256) :
    multiReduction .add [0] S8x256 v 0x00000000#32 reduces_S32x8x256_S8x256 hφ hacc (ix2 b j) = ∑ a : Fin 32, v (ix3 a b j) := by
  pointwise

theorem sum8 (v : FVec Ideal S8x256 .f32) (hφ) (hacc) (j : Fin 256) :
    multiReduction .add [0] S256 v 0x00000000#32 reduces_S8x256_S256 hφ hacc (ix1 j) = ∑ b : Fin 8, v (ix2 b j) := by
  pointwise

theorem dotB (x : FVec Ideal S1024x4096 .bf16) (w : FVec Ideal S4096x256 .bf16) (i : Fin 1024) (j : Fin 256) :
    matmul dot_S1024x4096_S4096x256_S1024x256_1_0_0_1_n_n none x w (constant S1024x256 .f32 0x00000000#32) (ix2 i j)
      = ∑ k : Fin 4096, x (ix2 i k) * w (ix2 k j) := by
  pointwise

/-- Row `b` of group `a` of eight rows. -/
abbrev row8 (a : Fin 32) (b : Fin 8) : Fin 256 := ⟨8 * a.val + b.val, by omega⟩

theorem cast32 (v : FVec Ideal S256x256 .f32) (a : Fin 32) (b : Fin 8) (j : Fin 256) :
    shapeCast S32x8x256 v shapeCasts_S256x256_S32x8x256 (ix3 a b j) = v (ix2 (row8 a b) j) := by
  pointwise
  exact congrArg v (congrArg (fun r : Fin 256 => (ix2 r j : S256x256.Idx)) (Fin.ext (by show a.val * 8 + b.val = 8 * a.val + b.val; omega)))

/-- A row of 128 equal entries, put twice side by side. -/
theorem cat_at (v : FVec Ideal S256x128 .f32) (s : Fin 256 → EReal) (h : ∀ r c, v (ix2 r c) = s r) (r j : Fin 256) :
    concatenate S256x256 1 [⟨S256x128, shapeCast S256x128 v shapeCasts_S256x128_S256x128⟩, ⟨S256x128, shapeCast S256x128 v shapeCasts_S256x128_S256x128⟩] concatenates_S256x128_S256x128_S256x256_d1 (ix2 r j) = s r := by
  pointwise
  split <;> exact h _ _

/-! ## A chunk of 256 rows -/

theorem tailCode (c : FVec Ideal S256x256 .f32) (q : FVec Ideal S1x256 .f32) (w : FVec Ideal S256x256 .bf16) (r j : Fin 256) :
    minimumf (broadcast S256x256 (FloatOps.ofBits .f32 0x42FE0000#32)) (maximumf (broadcast S256x256 (FloatOps.ofBits .f32 0xC2FE0000#32))
        (roundeven (divf (mulf (extf .f32 w bitsLt_bf16_f32) c) (broadcastTo S256x256 q broadcasts_S1x256_S256x256)))) (ix2 r j)
      = min c127 (max cm127 (rnd (Ideal.div (w (ix2 r j) * c (ix2 r j)) (q (ix2 0 j))))) := by
  pointwise

section Chunk

variable (v2 : FVec Ideal S8x256 .f32) (sb : Vec Ideal S256x128 .f32) (wv : Vec Ideal S256x256 .bf16) (s : Fin 256 → EReal) (hs : ∀ r c, sb (ix2 r c) = s r)
include hs

theorem w3_le (acc : FVec Ideal S8x256 .f32) (b : Fin 8) (j : Fin 256) (z : EReal) :
    k1_pay3 (F := Ideal) acc sb wv (ix2 b j) ≤ z ↔ acc (ix2 b j) ≤ z ∧ ∀ a : Fin 32, absE (wv (ix2 (row8 a b) j) * s (row8 a b)) ≤ z := by
  unfold k1_pay3
  refine (max_le_iff (a := acc (ix2 b j))).trans (and_congr_right fun _ => (red32 _ (.inl rfl) rfl b j z).trans (forall_congr' fun a => ?_))
  rw [cast32]
  have e := congrArg (fun q : EReal => absE (wv (ix2 (row8 a b) j) * q)) (cat_at sb s hs (row8 a b) j)
  exact iff_of_eq (congrArg (· ≤ z) e)

theorem w6_at (r j : Fin 256) :
    k1_pay6 (F := Ideal) v2 sb wv (ix2 r j) = min c127 (max cm127 (rnd (Ideal.div (wv (ix2 r j) * s r) (k1_pay4 (F := Ideal) v2 (ix2 0 j))))) := by
  unfold k1_pay6
  refine (tailCode _ _ _ r j).trans ?_
  rw [cat_at sb s hs]

end Chunk

theorem w8_eq (v2 : FVec Ideal S8x256 .f32) (sb : Vec Ideal S256x128 .f32) (wv : Vec Ideal S256x256 .bf16) (r j : Fin 256) :
    k1_pay8 (F := Ideal) v2 sb wv (ix2 r j) = k1_pay6 (F := Ideal) v2 sb wv (ix2 r j) := by
  unfold k1_pay8
  generalize k1_pay6 (F := Ideal) v2 sb wv = p
  pointwise

theorem w9_at (v2 acc : FVec Ideal S8x256 .f32) (sb : Vec Ideal S256x128 .f32) (wv : Vec Ideal S256x256 .bf16) (b : Fin 8) (j : Fin 256) :
    k1_pay9 (F := Ideal) v2 acc sb wv (ix2 b j) = acc (ix2 b j) + ∑ a : Fin 32, k1_pay6 (F := Ideal) v2 sb wv (ix2 (row8 a b) j) := by
  unfold k1_pay9
  exact congrArg (fun q : EReal => acc (ix2 b j) + q) ((sum32 _ (.inl rfl) rfl b j).trans (Finset.sum_congr rfl fun a _ => cast32 _ a b j))

theorem w2_at (b : Fin 8) (j : Fin 256) : k1_pay2 (F := Ideal) (ix2 b j) = 0 := by
  unfold k1_pay2
  pointwise
theorem w5_at (b : Fin 8) (j : Fin 256) : k1_pay5 (F := Ideal) (ix2 b j) = 0 := by
  unfold k1_pay5
  pointwise

theorem tailScale (M : FVec Ideal S256 .f32) (j : Fin 256) :
    select (cmpf .oeq (shapeCast S1x256 M shapeCasts_S256_S1x256) (broadcast S1x256 (FloatOps.ofBits .f32 0x00000000#32))) (broadcast S1x256 (FloatOps.ofBits .f32 0x3F800000#32))
        (divf (shapeCast S1x256 M shapeCasts_S256_S1x256) (broadcast S1x256 (FloatOps.ofBits .f32 0x42FE0000#32))) (ix2 0 j)
      = if M (ix1 j) = 0 then 1 else Ideal.div (M (ix1 j)) c127 := by
  pointwise

theorem w4_at (v2 : FVec Ideal S8x256 .f32) (f : Fin 4096 → EReal) (j : Fin 256) (h : (⨆ b : Fin 8, v2 (ix2 b j)) = ⨆ k, absE (f k)) :
    k1_pay4 (F := Ideal) v2 (ix2 0 j) = wScale f := by
  unfold k1_pay4 wScale
  refine (tailScale _ j).trans ?_
  have e := (red8 v2 (.inl rfl) rfl j).trans h
  rw [e]

/-! ## The loops -/

section Block

variable (W : Vec Ideal S4096x256 .bf16) (SB : Vec Ideal S4096x128 .f32) (s : Fin 4096 → EReal) (hs : ∀ k c, SB (ix2 k c) = s k)

/-- Column `j` of the smoothed block. -/
def fB (j : Fin 256) (k : Fin 4096) : EReal := W (ix2 k j) * s k
/-- Row `r` of chunk `n`. -/
abbrev row256 (n : ℕ) (hn : n < 16) (r : Fin 256) : Fin 4096 := ⟨256 * n + r.val, by omega⟩

theorem lt16a (k : Fin k1_t1_loop.trips) : k.val < 16 := lt_of_lt_of_eq k.isLt trips1
theorem lt16b (k : Fin k1_t2_loop.trips) : k.val < 16 := lt_of_lt_of_eq k.isLt trips2

theorem ldS1 (k : Fin k1_t1_loop.trips) (r : Fin 256) (c : Fin 128) :
    View.ld SB (Rect.unit (s := S4096x128) (k1_off1 k) S256x128.size (k1_off1_inb k)) (ix2 r c) = SB (ix2 (row256 k.val (lt16a k) r) c) := by
  refine View.ld_unit_apply_of _ _ _ _ _ _ fun a => ?_
  match a with
  | ⟨0, _⟩ => exact (congrArg (· + r.val) (congrFun (off1_eq k) 0)).symm
  | ⟨1, _⟩ => exact (Nat.zero_add _).symm.trans (congrArg (· + c.val) (congrFun (off1_eq k) 1)).symm
theorem ldW1 (k : Fin k1_t1_loop.trips) (r c : Fin 256) :
    View.ld W (Rect.unit (s := S4096x256) (k1_off2 k) S256x256.size (k1_off2_inb k)) (ix2 r c) = W (ix2 (row256 k.val (lt16a k) r) c) := by
  refine View.ld_unit_apply_of _ _ _ _ _ _ fun a => ?_
  match a with
  | ⟨0, _⟩ => exact (congrArg (· + r.val) (congrFun (off2_eq k) 0)).symm
  | ⟨1, _⟩ => exact (Nat.zero_add _).symm.trans (congrArg (· + c.val) (congrFun (off2_eq k) 1)).symm
theorem ldS2 (k : Fin k1_t2_loop.trips) (r : Fin 256) (c : Fin 128) :
    View.ld SB (Rect.unit (s := S4096x128) (k1_off3 k) S256x128.size (k1_off3_inb k)) (ix2 r c) = SB (ix2 (row256 k.val (lt16b k) r) c) := by
  refine View.ld_unit_apply_of _ _ _ _ _ _ fun a => ?_
  match a with
  | ⟨0, _⟩ => exact (congrArg (· + r.val) (congrFun (off3_eq k) 0)).symm
  | ⟨1, _⟩ => exact (Nat.zero_add _).symm.trans (congrArg (· + c.val) (congrFun (off3_eq k) 1)).symm
theorem ldW2 (k : Fin k1_t2_loop.trips) (r c : Fin 256) :
    View.ld W (Rect.unit (s := S4096x256) (k1_off4 k) S256x256.size (k1_off4_inb k)) (ix2 r c) = W (ix2 (row256 k.val (lt16b k) r) c) := by
  refine View.ld_unit_apply_of _ _ _ _ _ _ fun a => ?_
  match a with
  | ⟨0, _⟩ => exact (congrArg (· + r.val) (congrFun (off4_eq k) 0)).symm
  | ⟨1, _⟩ => exact (Nat.zero_add _).symm.trans (congrArg (· + c.val) (congrFun (off4_eq k) 1)).symm

include hs

theorem amax_le (n : ℕ) (hn : n ≤ 16) (b : Fin 8) (j : Fin 256) (z : EReal) :
    amaxN W SB n (ix2 b j) ≤ z ↔ 0 ≤ z ∧ ∀ t (ht : t < n) (a : Fin 32), absE (fB W s j (row256 t (by omega) (row8 a b))) ≤ z := by
  induction n with
  | zero =>
    rw [amaxN, w2_at]
    exact ⟨fun h => ⟨h, fun t ht => absurd ht (Nat.not_lt_zero _)⟩, fun h => h.1⟩
  | succ n ih =>
    have hn' : n < k1_t1_loop.trips := by rw [trips1]; omega
    rw [amaxN, dif_pos hn']
    refine ((w3_le _ _ (fun r => s (row256 n (by omega) r)) (fun r c => (ldS1 SB ⟨n, hn'⟩ r c).trans (hs _ _)) _ b j z).trans
      (and_congr (ih (by omega)) (forall_congr' fun a => iff_of_eq (congrArg (fun q : EReal => absE (q * s (row256 n (by omega) (row8 a b))) ≤ z)
        (ldW1 W ⟨n, hn'⟩ (row8 a b) j))))).trans ?_
    constructor
    · rintro ⟨⟨h0, h⟩, h'⟩
      refine ⟨h0, fun t ht a => ?_⟩
      rcases Nat.lt_succ_iff_lt_or_eq.mp ht with ht | rfl
      · exact h t ht a
      · exact h' a
    · rintro ⟨h0, h⟩
      exact ⟨⟨h0, fun t ht => h t (by omega)⟩, h n (by omega)⟩

theorem amax_eq (j : Fin 256) : (⨆ b : Fin 8, amax W SB (ix2 b j)) = ⨆ k, absE (fB W s j k) := by
  unfold amax
  rw [trips1]
  refine eq_of_forall_ge_iff fun z => ?_
  rw [iSup_le_iff, iSup_le_iff]
  constructor
  · intro h k
    have hk := ((amax_le W SB s hs 16 le_rfl ⟨k.val % 8, Nat.mod_lt _ (by omega)⟩ j z).mp (h _)).2 (k.val / 256) (by omega) ⟨k.val % 256 / 8, by omega⟩
    have e : row256 (k.val / 256) (by omega) (row8 ⟨k.val % 256 / 8, by omega⟩ ⟨k.val % 8, Nat.mod_lt _ (by omega)⟩) = k :=
      Fin.ext (by show 256 * (k.val / 256) + (8 * (k.val % 256 / 8) + k.val % 8) = k.val; omega)
    rwa [e] at hk
  · intro h b
    exact (amax_le W SB s hs 16 le_rfl b j z).mpr ⟨(absE_nonneg _).trans (h 0), fun t ht a => h _⟩

theorem scale_at (j : Fin 256) : k1_pay4 (F := Ideal) (amax W SB) (ix2 0 j) = wScale (fB W s j) :=
  w4_at _ _ j (amax_eq W SB s hs j)

theorem code_at (k : Fin k1_t2_loop.trips) (r j : Fin 256) :
    k1_pay6 (F := Ideal) (amax W SB) (View.ld SB (Rect.unit (s := S4096x128) (k1_off3 k) S256x128.size (k1_off3_inb k)))
        (View.ld W (Rect.unit (s := S4096x256) (k1_off4 k) S256x256.size (k1_off4_inb k))) (ix2 r j)
      = wCode (fB W s j) (row256 k.val (lt16b k) r) := by
  rw [w6_at _ _ _ (fun r => s (row256 k.val (lt16b k) r)) (fun r c => (ldS2 SB k r c).trans (hs _ _)), ldW2, scale_at W SB s hs]
  rfl

/-- The codes of a column, over the naturals. -/
def codeN (j : Fin 256) (n : ℕ) : EReal := if h : n < 4096 then wCode (fB W s j) ⟨n, h⟩ else 0

theorem csum_eq (n : ℕ) (hn : n ≤ 16) (b : Fin 8) (j : Fin 256) :
    csumN W SB (amax W SB) n (ix2 b j) = ∑ t ∈ Finset.range n, ∑ a : Fin 32, codeN W s j (256 * t + (8 * a.val + b.val)) := by
  induction n with
  | zero => rw [csumN, w5_at]; simp
  | succ n ih =>
    have hn' : n < k1_t2_loop.trips := by rw [trips2]; omega
    rw [csumN, dif_pos hn', w9_at, ih (by omega), Finset.sum_range_succ]
    refine congrArg (fun q : EReal => _ + q) (Finset.sum_congr rfl fun a _ => ?_)
    rw [code_at W SB s hs]
    unfold codeN
    rw [dif_pos (by omega)]

omit hs in
theorem sum_prod (m n : ℕ) (F : ℕ → EReal) : ∑ k : Fin (m * n), F k.val = ∑ a : Fin m, ∑ b : Fin n, F (n * a.val + b.val) := by
  rw [← finProdFinEquiv.sum_comp, Fintype.sum_prod_type]
  refine Finset.sum_congr rfl fun a _ => Finset.sum_congr rfl fun b _ => congrArg F ?_
  show b.val + n * a.val = _
  omega

theorem colsum_at (j : Fin 256) : (∑ b : Fin 8, csumN W SB (amax W SB) k1_t2_loop.trips (ix2 b j)) = ∑ k, wCode (fB W s j) k := by
  rw [trips2]
  have h1 : (∑ k, wCode (fB W s j) k) = ∑ k : Fin (16 * 256), codeN W s j k.val :=
    Finset.sum_congr rfl fun k _ => by unfold codeN; rw [dif_pos k.isLt]
  have h2 : ∀ t : Fin 16, (∑ q : Fin 256, codeN W s j (256 * t.val + q.val)) = ∑ a : Fin 32, ∑ b : Fin 8, codeN W s j (256 * t.val + (8 * a.val + b.val)) :=
    fun t => sum_prod 32 8 (fun q => codeN W s j (256 * t.val + q))
  rw [h1, sum_prod]
  simp only [h2, csum_eq W SB s hs 16 le_rfl, Finset.sum_range]
  rw [Finset.sum_comm]
  exact Finset.sum_congr rfl fun t _ => Finset.sum_comm

/-! ## The block's outputs -/

omit hs in
theorem emb4 (k : Fin k1_t2_loop.trips) (r c : Fin 256) :
    (Rect.unit (s := S4096x256) (k1_off4 k) S256x256.size (k1_off4_inb k)).emb (ix2 r c : S256x256.Idx) = ix2 (row256 k.val (lt16b k) r) c := by
  funext a
  match a with
  | ⟨0, _⟩ => exact Fin.ext ((Rect.idx_unit_val _ _ _ _ 0).trans (congrArg (· + r.val) (congrFun (off4_eq k) 0)))
  | ⟨1, _⟩ => exact Fin.ext ((Rect.idx_unit_val _ _ _ _ 1).trans ((congrArg (· + c.val) (congrFun (off4_eq k) 1)).trans (Nat.zero_add _)))

omit hs in
/-- What the chunks' stores leave, when each leaves its rows of one function. -/
theorem canon4 {e : EltTy} (p : Fin k1_t2_loop.trips → Vec Ideal S256x256 e) (G : Fin 4096 → Fin 256 → Elt Ideal e)
    (h : ∀ k r c, p k (ix2 r c) = G (row256 k.val (lt16b k) r) c) (i : Fin 4096) (c : Fin 256) :
    View.canon (Val := Elt Ideal) (piecesN (fun k => (⟨Rect.unit (s := S4096x256) (k1_off4 k) S256x256.size (k1_off4_inb k), p k⟩ : View.Piece (Elt Ideal) S4096x256 e)) k1_t2_loop.trips) (ix2 i c) = G i c := by
  have hp : ∀ k (x : S256x256.Idx), p k x = (fun y : S4096x256.Idx => G (y 0) (y 1)) ((Rect.unit (s := S4096x256) (k1_off4 k) S256x256.size (k1_off4_inb k)).emb x) := fun k x => by
    idx_vars x
    exact (h k x0 x1).trans (congrArg (fun y : S4096x256.Idx => G (y 0) (y 1)) (emb4 k x0 x1)).symm
  refine View.canon_apply_of_pieces (fun y : S4096x256.Idx => G (y 0) (y 1)) _ ?_ (ix2 i c) ⟨_, mem_piecesN _ ⟨_, row_lt (ix2 i c)⟩ _ (row_lt (ix2 i c)), mem_chunk (ix2 i c) (row_lt (ix2 i c))⟩
  intro q hq
  obtain ⟨n, rfl⟩ := of_mem_piecesN _ _ _ hq
  exact hp n

theorem out7_at (k : Fin 4096) (j : Fin 256) : out7 W SB (ix2 k j) = Ideal.fptosi 8 (wCode (fB W s j) k) :=
  canon4 (e := .i8) (fun n => k1_pay7 (F := Ideal) (amax W SB) (View.ld SB (Rect.unit (s := S4096x128) (k1_off3 n) S256x128.size (k1_off3_inb n)))
      (View.ld W (Rect.unit (s := S4096x256) (k1_off4 n) S256x256.size (k1_off4_inb n)))) (fun k j => Ideal.fptosi 8 (wCode (fB W s j) k))
    (fun n r c => congrArg (Ideal.fptosi 8) (code_at W SB s hs n r c)) k j

theorem wb_at (k : Fin 4096) (j : Fin 256) : wb W SB (ix2 k j) = wCode (fB W s j) k :=
  canon4 (e := .bf16) (fun n => k1_pay8 (F := Ideal) (amax W SB) (View.ld SB (Rect.unit (s := S4096x128) (k1_off3 n) S256x128.size (k1_off3_inb n)))
      (View.ld W (Rect.unit (s := S4096x256) (k1_off4 n) S256x256.size (k1_off4_inb n)))) (fun k j => wCode (fB W s j) k)
    (fun n r c => (w8_eq _ _ _ r c).trans (code_at W SB s hs n r c)) k j

theorem out8_at (j : Fin 256) : out8 W SB (ix2 0 j) = wScale (fB W s j) := scale_at W SB s hs j

omit hs in
theorem tailOut (D : FVec Ideal S1024x256 .f32) (T : FVec Ideal S256 .f32) (Z S : Vec Ideal S1024x1 .f32) (q : FVec Ideal S1x256 .f32) (i : Fin 1024) (j : Fin 256) :
    k1_pay1 (F := Ideal) (mulf (subf D (mulf (broadcastTo S1024x256 (shapeCast S1024x1 Z shapeCasts_S1024x1_S1024x1) broadcasts_S1024x1_S1024x256)
        (broadcastTo S1024x256 (shapeCast S1x256 T shapeCasts_S256_S1x256) broadcasts_S1x256_S1024x256)))
        (broadcastTo S1024x256 (shapeCast S1024x1 S shapeCasts_S1024x1_S1024x1) broadcasts_S1024x1_S1024x256))
        (broadcastTo S1024x256 q broadcasts_S1x256_S1024x256) (ix2 i j)
      = (D (ix2 i j) - Z (ix2 i 0) * T (ix1 j)) * S (ix2 i 0) * q (ix2 0 j) := by
  unfold k1_pay1
  pointwise

omit hs in
theorem ldCol (X : Vec Ideal S1024x128 .f32) (i : Fin 1024) :
    View.ld X (Rect.unit (s := S1024x128) ![0, 0] S1024x1.size inb_S1024x128_S1024x1_0_0) (ix2 i 0) = X (ix2 i 0) := by
  refine View.ld_unit_apply_of _ _ _ _ _ _ fun a => ?_
  match a with
  | ⟨0, _⟩ => exact (Nat.zero_add _).symm
  | ⟨1, _⟩ => rfl

omit hs in
theorem castX (X : Vec Ideal S1024x4096 .bf16) (i : Fin 1024) (k : Fin 4096) :
    shapeCast S1024x4096 X shapeCasts_S1024x4096_S1024x4096 (ix2 i k) = X (ix2 i k) := by
  pointwise

/-- An entry of the result block. -/
theorem out6_at (XB : Vec Ideal S1024x4096 .bf16) (SC ZP : Vec Ideal S1024x128 .f32) (g : Fin 4096 → EReal) (i : Fin 1024) (j : Fin 256)
    (hx : ∀ k, XB (ix2 i k) = xCode g k) (hc : SC (ix2 i 0) = xScale g) (hz : ZP (ix2 i 0) = zeroPt g) :
    out6 W SB XB SC ZP (ix2 i j) = prod g (fB W s j) := by
  unfold out6 k1_pay10 k1_pay11 prod
  refine (tailOut _ _ _ _ _ i j).trans ?_
  have hD := (dotB (shapeCast S1024x4096 XB shapeCasts_S1024x4096_S1024x4096) (wb W SB) i j).trans
    (Finset.sum_congr rfl fun k _ => congrArg₂ (fun p q : EReal => p * q) ((castX XB i k).trans (hx k)) (wb_at W SB s hs k j))
  have hT := (sum8 (csumN W SB (amax W SB) k1_t2_loop.trips) (.inl rfl) rfl j).trans (colsum_at W SB s hs j)
  rw [hD, hT, ldCol, ldCol, hc, hz, scale_at W SB s hs]

end Block

end Cert.KernelIdeal.Hand
-- ==== Proof.RefRed.lean ====
/- The reference's reductions and products, element by element.. -/
module

public import proofs.«01_k».proof.Proof.Spec
public import proofs.«01_k».proof.Proof.Ref

@[expose] public section

noncomputable section

namespace Cert.ReferenceIdeal.Hand

open Cert.ReferenceIdeal Cert.ReferenceIdeal.Gen Idealize.ShloMosaic Cert.Spec

/-! ## Reductions -/

theorem redCol (v : FVec Ideal S2x512x4096 .f32) (hφ) (hacc) (k : Fin 4096) :
    multiReduction .maximumf [0, 1] S4096 v 0xFF800000#32 reduces_S2x512x4096_S4096 hφ hacc (ix1 k)
      = ⨆ i : Fin 1024, v (ix3 ⟨i.val / 512, by omega⟩ ⟨i.val % 512, Nat.mod_lt _ (by omega)⟩ k) := by
  refine eq_of_forall_ge_iff fun z => ?_
  rw [redMax_le, iSup_le_iff]
  constructor
  · intro h i
    exact h _ (funext fun b => by match b with | ⟨0, _⟩ => exact Fin.ext rfl)
  · intro h i hi
    have hk : (i 2).val = k.val := congrArg (fun j => (j 0).val) hi
    have h0 : (i 0).val < 2 := (i 0).isLt
    have h1 : (i 1).val < 512 := (i 1).isLt
    have e : i = ix3 ⟨(512 * (i 0).val + (i 1).val) / 512, by omega⟩ ⟨(512 * (i 0).val + (i 1).val) % 512, Nat.mod_lt _ (by omega)⟩ k := by
      funext a
      match a with
      | ⟨0, _⟩ => exact Fin.ext (by show (i 0).val = (512 * (i 0).val + (i 1).val) / 512; omega)
      | ⟨1, _⟩ => exact Fin.ext (by show (i 1).val = (512 * (i 0).val + (i 1).val) % 512; omega)
      | ⟨2, _⟩ => exact Fin.ext hk
    rw [e]
    exact h ⟨512 * (i 0).val + (i 1).val, by omega⟩

theorem redRowMax (v : FVec Ideal S2x512x4096 .f32) (hφ) (hacc) (b : Fin 2) (r : Fin 512) :
    multiReduction .maximumf [2] S2x512 v 0xFF800000#32 reduces_S2x512x4096_S2x512 hφ hacc (ix2 b r) = ⨆ k : Fin 4096, v (ix3 b r k) := by
  refine eq_of_forall_ge_iff fun z => ?_
  rw [redMax_le, iSup_le_iff]
  constructor
  · intro h i
    exact h _ (funext fun b => by match b with | ⟨0, _⟩ => exact Fin.ext rfl | ⟨1, _⟩ => exact Fin.ext rfl)
  · intro h i hi
    have hb : (i 0).val = b.val := congrArg (fun j => (j 0).val) hi
    have hr : (i 1).val = r.val := congrArg (fun j => (j 1).val) hi
    have e : i = ix3 b r (i 2) := by
      funext a
      match a with
      | ⟨0, _⟩ => exact Fin.ext hb
      | ⟨1, _⟩ => exact Fin.ext hr
      | ⟨2, _⟩ => rfl
    rw [e]
    exact h (i 2)

theorem redRowMin (v : FVec Ideal S2x512x4096 .f32) (hφ) (hacc) (b : Fin 2) (r : Fin 512) :
    multiReduction .minimumf [2] S2x512 v 0x7F800000#32 reduces_S2x512x4096_S2x512 hφ hacc (ix2 b r) = ⨅ k : Fin 4096, v (ix3 b r k) := by
  refine eq_of_forall_le_iff fun z => ?_
  rw [le_redMin, le_iInf_iff]
  constructor
  · intro h i
    exact h _ (funext fun b => by match b with | ⟨0, _⟩ => exact Fin.ext rfl | ⟨1, _⟩ => exact Fin.ext rfl)
  · intro h i hi
    have hb : (i 0).val = b.val := congrArg (fun j => (j 0).val) hi
    have hr : (i 1).val = r.val := congrArg (fun j => (j 1).val) hi
    have e : i = ix3 b r (i 2) := by
      funext a
      match a with
      | ⟨0, _⟩ => exact Fin.ext hb
      | ⟨1, _⟩ => exact Fin.ext hr
      | ⟨2, _⟩ => rfl
    rw [e]
    exact h (i 2)

theorem redW (v : FVec Ideal S4096x11008 .f32) (hφ) (hacc) (n : Fin 11008) :
    multiReduction .maximumf [0] S11008 v 0xFF800000#32 reduces_S4096x11008_S11008 hφ hacc (ix1 n) = ⨆ k : Fin 4096, v (ix2 k n) := by
  refine eq_of_forall_ge_iff fun z => ?_
  rw [redMax_le, iSup_le_iff]
  constructor
  · intro h i
    exact h _ (funext fun b => by match b with | ⟨0, _⟩ => exact Fin.ext rfl)
  · intro h i hi
    have hn : (i 1).val = n.val := congrArg (fun j => (j 0).val) hi
    have e : i = ix2 (i 0) n := by
      funext a
      match a with
      | ⟨0, _⟩ => rfl
      | ⟨1, _⟩ => exact Fin.ext hn
    rw [e]
    exact h (i 0)

theorem sumW (v : FVec Ideal S4096x11008 .f32) (hφ) (hacc) (n : Fin 11008) :
    multiReduction .add [0] S11008 v 0x00000000#32 reduces_S4096x11008_S11008 hφ hacc (ix1 n) = ∑ k : Fin 4096, v (ix2 k n) := by
  pointwise

theorem dotW (x : FVec Ideal S2x512x4096 .bf16) (w : FVec Ideal S4096x11008 .bf16) (b : Fin 2) (r : Fin 512) (n : Fin 11008) :
    matmul dot_S2x512x4096_S4096x11008_S2x512x11008_2_0_01_1_n_n none x w (constant S2x512x11008 .f32 0x00000000#32) (ix3 b r n)
      = ∑ k : Fin 4096, x (ix3 b r k) * w (ix2 k n) := by
  pointwise

end Cert.ReferenceIdeal.Hand
-- ==== Proof.RefVal.lean ====
/- The reference's results, element by element, are the quantised product's formulas. -/
module

public import proofs.«01_k».proof.Proof.Spec
public import proofs.«01_k».proof.Proof.Ref
public import proofs.«01_k».proof.Proof.RefRed

@[expose] public section

noncomputable section

namespace Cert.ReferenceIdeal.Hand

open Cert.ReferenceIdeal Cert.ReferenceIdeal.Gen Idealize.ShloMosaic Cert.Spec

/-! ## The values -/

variable (x : FVec Ideal S2x512x4096 .bf16) (w : FVec Ideal S4096x11008 .bf16) (u : FVec Ideal S4096 .f32)

/-- Row `i` of the activation, the two leading axes taken as one. -/
def xAt (i : Fin 1024) (k : Fin 4096) : EReal := x (ix3 ⟨i.val / 512, by omega⟩ ⟨i.val % 512, Nat.mod_lt _ (by omega)⟩ k)
/-- Channel `k`'s smoothing factor. -/
def sR (k : Fin 4096) : EReal := smooth (fun i => xAt x i k) (u (ix1 k))
/-- Row `(b, r)` of the smoothed activation. -/
def gR (b : Fin 2) (r : Fin 512) (k : Fin 4096) : EReal := Ideal.div (x (ix3 b r k)) (sR x u k)
/-- Column `n` of the smoothed weight. -/
def fR (n : Fin 11008) (k : Fin 4096) : EReal := w (ix2 k n) * sR x u k

theorem tail3 (M u : FVec Ideal S4096 .f32) (k : Fin 4096) :
    divf (powf (maximumf M (broadcast S4096 (FloatOps.ofBits .f32 0x3727C5AC#32))) (broadcast S4096 (FloatOps.ofBits .f32 0x3F000000#32)))
        (powf (maximumf u (broadcast S4096 (FloatOps.ofBits .f32 0x3727C5AC#32))) (broadcast S4096 (FloatOps.ofBits .f32 0x3F000000#32))) (ix1 k)
      = Ideal.div (Ideal.pow (max (M (ix1 k)) cEps) cHalf) (Ideal.pow (max (u (ix1 k)) cEps) cHalf) := rfl

theorem pay3_at (k : Fin 4096) : k0_pay3 (F := Ideal) x u (ix1 k) = sR x u k := by
  unfold k0_pay3
  have h := (redCol (absf (k0_pay2 (F := Ideal) x)) (.inl rfl) rfl k).trans (iSup_congr fun i => (rfl : _ = absE (xAt x i k)))
  revert h
  generalize multiReduction .maximumf [0, 1] S4096 (absf (k0_pay2 (F := Ideal) x)) 0xFF800000#32 reduces_S2x512x4096_S4096 (.inl rfl) rfl = M
  intro h
  have e : sR x u k = Ideal.div (Ideal.pow (max (M (ix1 k)) cEps) cHalf) (Ideal.pow (max (u (ix1 k)) cEps) cHalf) := by
    rw [h]; unfold sR smooth; rfl
  rw [e]
  exact tail3 M u k

theorem pay4_at (k : Fin 4096) (n : Fin 11008) : k0_pay4 (F := Ideal) x w u (ix2 k n) = fR x w u n k := by
  unfold k0_pay4 fR
  rw [← pay3_at]
  generalize k0_pay3 (F := Ideal) x u = s
  pointwise

theorem tail5 (M : FVec Ideal S11008 .f32) (n : Fin 11008) :
    select (cmpf .oeq M (broadcast S11008 (FloatOps.ofBits .f32 0x00000000#32))) (broadcast S11008 (FloatOps.ofBits .f32 0x3F800000#32)) (divf M (broadcast S11008 (FloatOps.ofBits .f32 0x42FE0000#32))) (ix1 n)
      = if M (ix1 n) = 0 then 1 else Ideal.div (M (ix1 n)) c127 := by
  pointwise

theorem pay5_at (n : Fin 11008) : k0_pay5 (F := Ideal) x w u (ix1 n) = wScale (fR x w u n) := by
  unfold k0_pay5
  have h := redW (absf (k0_pay4 (F := Ideal) x w u)) (.inl rfl) rfl n
  revert h
  generalize multiReduction .maximumf [0] S11008 (absf (k0_pay4 (F := Ideal) x w u)) 0xFF800000#32 reduces_S4096x11008_S11008 (.inl rfl) rfl = M
  intro h
  have h2 : M (ix1 n) = ⨆ k, absE (fR x w u n k) := h.trans (iSup_congr fun k => congrArg (FloatOps.absf (F := Ideal) (φ := .f32)) (pay4_at x w u k n))
  have e : wScale (fR x w u n) = if M (ix1 n) = 0 then 1 else Ideal.div (M (ix1 n)) c127 := by
    rw [h2]; unfold wScale; rfl
  rw [e]
  exact tail5 M n

theorem tail6 (sc : FVec Ideal S11008 .f32) (ws : FVec Ideal S4096x11008 .f32) (k : Fin 4096) (n : Fin 11008) :
    fptosi 8 (minimumf (broadcast S4096x11008 (FloatOps.ofBits .f32 0x42FE0000#32)) (maximumf (broadcast S4096x11008 (FloatOps.ofBits .f32 0xC2FE0000#32))
        (roundeven (divf ws (broadcastTo S4096x11008 (shapeCast S1x11008 sc shapeCasts_S11008_S1x11008) broadcasts_S1x11008_S4096x11008))))) (ix2 k n)
      = Ideal.fptosi 8 (min c127 (max cm127 (rnd (Ideal.div (ws (ix2 k n)) (sc (ix1 n)))))) := by
  pointwise
  rfl

theorem pay6_at (k : Fin 4096) (n : Fin 11008) : k0_pay6 (F := Ideal) x w u (ix2 k n) = Ideal.fptosi 8 (wCode (fR x w u n) k) := by
  unfold k0_pay6 wCode
  rw [← pay5_at, ← pay4_at]
  exact tail6 _ _ k n

theorem pay7_at (b : Fin 2) (r : Fin 512) (k : Fin 4096) : k0_pay7 (F := Ideal) x u (ix3 b r k) = gR x u b r k := by
  unfold k0_pay7 gR
  rw [← pay3_at]
  generalize k0_pay3 (F := Ideal) x u = s
  pointwise
  rfl

theorem tail10 (M : FVec Ideal S2x512 .f32) (b : Fin 2) (r : Fin 512) :
    minimumf M (broadcast S2x512 (FloatOps.ofBits .f32 0x00000000#32)) (ix2 b r) = min (M (ix2 b r)) 0 := by
  pointwise

/-- The row's range, scale, zero point and codes, from the smoothed activation. -/
theorem pay10_at (b : Fin 2) (r : Fin 512) : k0_pay10 (F := Ideal) (k0_pay8 (F := Ideal) x u) (k0_pay9 (F := Ideal)) (ix2 b r) = lo (gR x u b r) := by
  unfold k0_pay10 k0_pay8 k0_pay9
  have h := redRowMin (k0_pay7 (F := Ideal) x u) (.inl rfl) rfl b r
  revert h
  generalize multiReduction .minimumf [2] S2x512 (k0_pay7 (F := Ideal) x u) 0x7F800000#32 reduces_S2x512x4096_S2x512 (.inl rfl) rfl = M
  intro h
  have h2 : M (ix2 b r) = ⨅ k, gR x u b r k := h.trans (iInf_congr fun k => pay7_at x u b r k)
  have e : lo (gR x u b r) = min (M (ix2 b r)) 0 := by
    rw [h2]; unfold lo; rfl
  rw [e]
  exact tail10 M b r

theorem tail11 (M L : FVec Ideal S2x512 .f32) (b : Fin 2) (r : Fin 512) :
    select (cmpf .oeq (maximumf M (broadcast S2x512 (FloatOps.ofBits .f32 0x00000000#32))) L) (broadcast S2x512 (FloatOps.ofBits .f32 0x3F800000#32))
        (divf (subf (maximumf M (broadcast S2x512 (FloatOps.ofBits .f32 0x00000000#32))) L) (broadcast S2x512 (FloatOps.ofBits .f32 0x437F0000#32))) (ix2 b r)
      = if max (M (ix2 b r)) 0 = L (ix2 b r) then 1 else Ideal.div (max (M (ix2 b r)) 0 - L (ix2 b r)) c255 := by
  pointwise

theorem pay11_at (b : Fin 2) (r : Fin 512) : k0_pay11 (F := Ideal) (k0_pay7 (F := Ideal) x u) (k0_pay8 (F := Ideal) x u) (k0_pay9 (F := Ideal)) (ix2 b r) = xScale (gR x u b r) := by
  unfold k0_pay11 xScale hi
  have h := redRowMax (k0_pay7 (F := Ideal) x u) (.inl rfl) rfl b r
  rw [← pay10_at]
  revert h
  generalize multiReduction .maximumf [2] S2x512 (k0_pay7 (F := Ideal) x u) 0xFF800000#32 reduces_S2x512x4096_S2x512 (.inl rfl) rfl = M
  generalize k0_pay10 (F := Ideal) (k0_pay8 (F := Ideal) x u) (k0_pay9 (F := Ideal)) = L
  intro h
  have h2 : M (ix2 b r) = ⨆ k, gR x u b r k := h.trans (iSup_congr fun k => pay7_at x u b r k)
  rw [← h2]
  exact tail11 M L b r

theorem tail12 (L S : FVec Ideal S2x512 .f32) (b : Fin 2) (r : Fin 512) :
    fptosi 32 (minimumf (broadcast S2x512 (FloatOps.ofBits .f32 0x437F0000#32)) (maximumf (broadcast S2x512 (FloatOps.ofBits .f32 0x00000000#32))
        (roundeven (divf (subf (broadcast S2x512 (FloatOps.ofBits .f32 0x00000000#32)) L) S)))) (ix2 b r)
      = Ideal.fptosi 32 (min c255 (max 0 (rnd (Ideal.div (0 - L (ix2 b r)) (S (ix2 b r)))))) := by
  pointwise
  rfl

theorem pay12_at (b : Fin 2) (r : Fin 512) : k0_pay12 (F := Ideal) (k0_pay7 (F := Ideal) x u) (k0_pay8 (F := Ideal) x u) (k0_pay9 (F := Ideal)) (ix2 b r) = Ideal.fptosi 32 (zeroPt (gR x u b r)) := by
  unfold k0_pay12 zeroPt
  rw [← pay10_at, ← pay11_at]
  exact tail12 _ _ b r

theorem tail13 (g : FVec Ideal S2x512x4096 .f32) (S : FVec Ideal S2x512 .f32) (Z : IVec S2x512 32) (b : Fin 2) (r : Fin 512) (k : Fin 4096) :
    fptoui 8 (minimumf (broadcast S2x512x4096 (FloatOps.ofBits .f32 0x437F0000#32)) (maximumf (broadcast S2x512x4096 (FloatOps.ofBits .f32 0x00000000#32))
        (addf (roundeven (divf g (broadcastTo S2x512x4096 (shapeCast S2x512x1 S shapeCasts_S2x512_S2x512x1) broadcasts_S2x512x1_S2x512x4096)))
          (broadcastTo S2x512x4096 (sitofp .f32 (shapeCast S2x512x1 Z shapeCasts_S2x512_S2x512x1)) broadcasts_S2x512x1_S2x512x4096)))) (ix3 b r k)
      = Ideal.fptoui 8 (min c255 (max 0 (rnd (Ideal.div (g (ix3 b r k)) (S (ix2 b r))) + (((Z (ix2 b r)).toInt : ℝ) : EReal)))) := by
  pointwise
  rfl

theorem pay13_at (b : Fin 2) (r : Fin 512) (k : Fin 4096) : k0_pay13 (F := Ideal) (k0_pay7 (F := Ideal) x u) (k0_pay8 (F := Ideal) x u) (k0_pay9 (F := Ideal)) (ix3 b r k) = Ideal.fptoui 8 (xCode (gR x u b r) k) := by
  have hz : (((k0_pay12 (F := Ideal) (k0_pay7 (F := Ideal) x u) (k0_pay8 (F := Ideal) x u) (k0_pay9 (F := Ideal)) (ix2 b r)).toInt : ℝ) : EReal) = zeroPt (gR x u b r) := by
    rw [pay12_at]
    obtain ⟨n, h1, h2, e⟩ := zeroPt_int (gR x u b r)
    rw [e]
    exact sint32 n h1 h2
  unfold k0_pay13 xCode
  rw [← pay11_at, ← pay7_at, ← hz]
  exact tail13 _ _ _ b r k

theorem tail14 (D : FVec Ideal S2x512x11008 .f32) (Z : IVec S2x512 32) (T : FVec Ideal S11008 .f32) (S : FVec Ideal S2x512 .f32) (b : Fin 2) (r : Fin 512) (n : Fin 11008) :
    mulf (subf D (mulf (broadcastTo S2x512x11008 (sitofp .f32 (shapeCast S2x512x1 Z shapeCasts_S2x512_S2x512x1)) broadcasts_S2x512x1_S2x512x11008)
        (broadcastTo S2x512x11008 (shapeCast S1x1x11008 T shapeCasts_S11008_S1x1x11008) broadcasts_S1x1x11008_S2x512x11008)))
        (broadcastTo S2x512x11008 (shapeCast S2x512x1 S shapeCasts_S2x512_S2x512x1) broadcasts_S2x512x1_S2x512x11008) (ix3 b r n)
      = (D (ix3 b r n) - (((Z (ix2 b r)).toInt : ℝ) : EReal) * T (ix1 n)) * S (ix2 b r) := by
  pointwise
  rfl

theorem pay14_at (b : Fin 2) (r : Fin 512) (n : Fin 11008) :
    k0_pay14 (F := Ideal) (k0_pay6 (F := Ideal) x w u) (k0_pay7 (F := Ideal) x u) (k0_pay8 (F := Ideal) x u) (k0_pay9 (F := Ideal)) (ix3 b r n)
      = ((∑ k, xCode (gR x u b r) k * wCode (fR x w u n) k) - zeroPt (gR x u b r) * ∑ k, wCode (fR x w u n) k) * xScale (gR x u b r) := by
  have hz : (((k0_pay12 (F := Ideal) (k0_pay7 (F := Ideal) x u) (k0_pay8 (F := Ideal) x u) (k0_pay9 (F := Ideal)) (ix2 b r)).toInt : ℝ) : EReal) = zeroPt (gR x u b r) := by
    rw [pay12_at]
    obtain ⟨n, h1, h2, e⟩ := zeroPt_int (gR x u b r)
    rw [e]
    exact sint32 n h1 h2
  have hx : ∀ k, uitofp (F := Ideal) .bf16 (k0_pay13 (F := Ideal) (k0_pay7 (F := Ideal) x u) (k0_pay8 (F := Ideal) x u) (k0_pay9 (F := Ideal))) (ix3 b r k) = xCode (gR x u b r) k := fun k => by
    show (((k0_pay13 (F := Ideal) (k0_pay7 (F := Ideal) x u) (k0_pay8 (F := Ideal) x u) (k0_pay9 (F := Ideal)) (ix3 b r k)).toNat : ℝ) : EReal) = _
    rw [pay13_at]
    obtain ⟨n, h1, h2, e⟩ := xCode_int (gR x u b r) k
    rw [e]
    exact uint8 n h1 h2
  have hw : ∀ k, (((k0_pay6 (F := Ideal) x w u (ix2 k n)).toInt : ℝ) : EReal) = wCode (fR x w u n) k := fun k => by
    rw [pay6_at]
    obtain ⟨n, h1, h2, e⟩ := wCode_int (fR x w u n) k
    rw [e]
    exact sint8 n h1 h2
  have hd := (dotW (uitofp (F := Ideal) .bf16 (k0_pay13 (F := Ideal) (k0_pay7 (F := Ideal) x u) (k0_pay8 (F := Ideal) x u) (k0_pay9 (F := Ideal)))) (sitofp (F := Ideal) .bf16 (k0_pay6 (F := Ideal) x w u)) b r n).trans
    (Finset.sum_congr rfl fun k _ => congrArg₂ (fun p q : EReal => p * q) (hx k) (hw k))
  have hs := (sumW (sitofp (F := Ideal) .f32 (k0_pay6 (F := Ideal) x w u)) (.inl rfl) rfl n).trans (Finset.sum_congr rfl fun k _ => hw k)
  unfold k0_pay14
  refine (tail14 _ _ _ _ b r n).trans ?_
  rw [hz, pay11_at]
  exact congrArg₂ (fun p q : EReal => (p - zeroPt (gR x u b r) * q) * xScale (gR x u b r)) hd hs

theorem pay1_at (b : Fin 2) (r : Fin 512) (n : Fin 11008) :
    k0_pay1 (F := Ideal) (k0_pay14 (F := Ideal) (k0_pay6 (F := Ideal) x w u) (k0_pay7 (F := Ideal) x u) (k0_pay8 (F := Ideal) x u) (k0_pay9 (F := Ideal))) (k0_pay15 (F := Ideal) (k0_pay5 (F := Ideal) x w u)) (ix3 b r n) = prod (gR x u b r) (fR x w u n) := by
  unfold prod
  rw [← pay14_at, ← pay5_at]
  unfold k0_pay1 k0_pay15
  generalize k0_pay14 (F := Ideal) (k0_pay6 (F := Ideal) x w u) (k0_pay7 (F := Ideal) x u) (k0_pay8 (F := Ideal) x u) (k0_pay9 (F := Ideal)) = P
  generalize k0_pay5 (F := Ideal) x w u = W
  pointwise

end Cert.ReferenceIdeal.Hand
-- ==== Proof.Same.lean ====
/- The kernel's seven results and the reference's are the same functions of the arguments. -/
module

public import proofs.«01_k».proof.Proof.KVal
public import proofs.«01_k».proof.Proof.K0Ideal
public import proofs.«01_k».proof.Proof.K1Ideal
public import proofs.«01_k».proof.Proof.Ref
public import proofs.«01_k».proof.Proof.RefVal

@[expose] public section

noncomputable section

/-! ## The reference's values, its loads read -/

namespace Cert.ReferenceIdeal.Hand

open Cert.ReferenceIdeal Cert.ReferenceIdeal.Gen Idealize.ShloMosaic Cert.Spec

variable (x : Vec Ideal S2x512x4096 .bf16) (w : Vec Ideal S4096x11008 .bf16) (u : Vec Ideal S4096 .f32)

theorem p16 : k0_pay16 (F := Ideal) x w u = k0_pay5 (F := Ideal) x w u := by
  unfold k0_pay16
  rw [View.ld_unit_zero (S := S2x512x4096) hz0 _ x, View.ld_unit_zero (S := S4096x11008) hz1 _ w, View.ld_unit_zero (S := S4096) hz2 _ u]
theorem p17 : k0_pay17 (F := Ideal) x w u = k0_pay6 (F := Ideal) x w u := by
  unfold k0_pay17
  rw [View.ld_unit_zero (S := S2x512x4096) hz0 _ x, View.ld_unit_zero (S := S4096x11008) hz1 _ w, View.ld_unit_zero (S := S4096) hz2 _ u]
theorem p18 : k0_pay18 (F := Ideal) x w u = k0_pay7 (F := Ideal) x u := by
  unfold k0_pay18
  rw [View.ld_unit_zero (S := S2x512x4096) hz0 _ x, View.ld_unit_zero (S := S4096) hz2 _ u]
theorem p19 : k0_pay19 (F := Ideal) x w u = k0_pay8 (F := Ideal) x u := by
  unfold k0_pay19
  rw [View.ld_unit_zero (S := S2x512x4096) hz0 _ x, View.ld_unit_zero (S := S4096) hz2 _ u]
theorem p20 : k0_pay20 (F := Ideal) x w u = k0_pay9 (F := Ideal) := by
  unfold k0_pay20
  rfl

theorem G3_at (b : Fin 2) (r : Fin 512) (n : Fin 11008) : G3 (F := Ideal) x w u (ix3 b r n) = prod (gR x u b r) (fR x w u n) := by
  unfold G3
  rw [p16, p17, p18, p19, p20]
  exact pay1_at x w u b r n
theorem G4_at (k : Fin 4096) : G4 (F := Ideal) x w u (ix1 k) = sR x u k := pay3_at x u k
theorem G5_at (k : Fin 4096) (n : Fin 11008) : G5 (F := Ideal) x w u (ix2 k n) = Ideal.fptosi 8 (wCode (fR x w u n) k) := by
  unfold G5
  rw [p17]
  exact pay6_at x w u k n
theorem G6_at (n : Fin 11008) : G6 (F := Ideal) x w u (ix1 n) = wScale (fR x w u n) := by
  unfold G6
  rw [p16]
  exact pay5_at x w u n
theorem G7_at (b : Fin 2) (r : Fin 512) (k : Fin 4096) : G7 (F := Ideal) x w u (ix3 b r k) = Ideal.fptoui 8 (xCode (gR x u b r) k) := by
  unfold G7
  rw [p18, p19, p20]
  exact pay13_at x u b r k
theorem G8_at (b : Fin 2) (r : Fin 512) : G8 (F := Ideal) x w u (ix2 b r) = xScale (gR x u b r) := by
  unfold G8
  rw [p18, p19, p20]
  exact pay11_at x u b r
theorem G9_at (b : Fin 2) (r : Fin 512) : G9 (F := Ideal) x w u (ix2 b r) = Ideal.fptosi 32 (zeroPt (gR x u b r)) := by
  unfold G9
  rw [p18, p19, p20]
  exact pay12_at x u b r

end Cert.ReferenceIdeal.Hand

/-! ## The kernel's values -/

namespace Cert.KernelIdeal.Hand

open Cert.KernelIdeal Cert.KernelIdeal.Gen Idealize.ShloMosaic Cert.Spec
open Cert.ReferenceIdeal.Hand (sR gR fR xAt G3 G4 G5 G6 G7 G8 G9)

variable (x : Vec Ideal S2x512x4096 .bf16) (w : Vec Ideal S4096x11008 .bf16) (u : Vec Ideal S4096 .f32)

/-- The activation with its leading axes joined, and the weight's maxima as a row. -/
abbrev xJ : Vec Ideal S1024x4096 .bf16 := shapeCast S1024x4096 x shapeCasts_S2x512x4096_S1024x4096
abbrev uJ : Vec Ideal S1x4096 .f32 := shapeCast S1x4096 u shapeCasts_S4096_S1x4096

/-- Row `(b, r)` with the leading axes joined. -/
abbrev rowJ (b : Fin 2) (r : Fin 512) : Fin 1024 := ⟨b.val * 512 + r.val, by omega⟩

theorem xJ_at (i : Fin 1024) (k : Fin 4096) : xJ x (ix2 i k) = xAt x i k := by
  unfold xJ xAt
  pointwise
theorem uJ_at (k : Fin 4096) : uJ u (ix2 0 k) = u (ix1 k) := by
  unfold uJ
  pointwise
theorem sK_eq (k : Fin 4096) : sK (xJ x) (uJ u) k = sR x u k :=
  congrArg₂ smooth (funext fun i => xJ_at x i k) (uJ_at u k)
theorem xAt_row (b : Fin 2) (r : Fin 512) (k : Fin 4096) : xAt x (rowJ b r) k = x (ix3 b r k) := by
  have h1 : (⟨(rowJ b r).val / 512, by omega⟩ : Fin 2) = b := Fin.ext (by show (b.val * 512 + r.val) / 512 = b.val; omega)
  have h2 : (⟨(rowJ b r).val % 512, Nat.mod_lt _ (by omega)⟩ : Fin 512) = r := Fin.ext (by show (b.val * 512 + r.val) % 512 = r.val; omega)
  unfold xAt
  rw [h1, h2]
theorem gK_eq (b : Fin 2) (r : Fin 512) : gK (xJ x) (uJ u) (rowJ b r) = gR x u b r :=
  funext fun k => congrArg₂ Ideal.div ((xJ_at x _ k).trans (xAt_row x b r k)) (sK_eq x u k)
theorem fB_eq (n : Fin 11008) : fB (wcol w (n.val / 256) (by omega)) (sK (xJ x) (uJ u)) ⟨n.val % 256, Nat.mod_lt _ (by omega)⟩ = fR x w u n := by
  funext k
  refine congrArg₂ (fun p q : EReal => p * q) (congrArg (fun n' : Fin 11008 => w (ix2 k n')) (Fin.ext ?_)) (sK_eq x u k)
  show 256 * (n.val / 256) + n.val % 256 = n.val
  omega

theorem cast3 (Y : FVec Ideal S1024x11008 .bf16) (b : Fin 2) (r : Fin 512) (n : Fin 11008) :
    shapeCast S2x512x11008 Y shapeCasts_S1024x11008_S2x512x11008 (ix3 b r n) = Y (ix2 (rowJ b r) n) := by
  pointwise
theorem cast7 (Y : IVec S1024x4096 8) (b : Fin 2) (r : Fin 512) (k : Fin 4096) :
    shapeCast S2x512x4096 Y shapeCasts_S1024x4096_S2x512x4096 (ix3 b r k) = Y (ix2 (rowJ b r) k) := by
  pointwise
theorem cast8 {e : EltTy} (Y : Vec Ideal S8x128 e) (b : Fin 2) (r : Fin 512) :
    shapeCast S2x512 Y shapeCasts_S8x128_S2x512 (ix2 b r) = Y (ix2 ⟨(b.val * 512 + r.val) / 128, by omega⟩ ⟨(b.val * 512 + r.val) % 128, Nat.mod_lt _ (by omega)⟩) := by
  pointwise
  exact congrArg₂ (fun (p : Fin 8) (q : Fin 128) => Y (ix2 p q)) (Fin.ext (by show b.val * 4 + r.val / 128 = (b.val * 512 + r.val) / 128; omega))
    (Fin.ext (by show r.val % 128 = (b.val * 512 + r.val) % 128; omega))
theorem rowOf_eq (b : Fin 2) (r : Fin 512) : rowOf (ix2 ⟨(b.val * 512 + r.val) / 128, by omega⟩ ⟨(b.val * 512 + r.val) % 128, Nat.mod_lt _ (by omega)⟩) = rowJ b r :=
  Fin.ext (by show 128 * ((b.val * 512 + r.val) / 128) + (b.val * 512 + r.val) % 128 = b.val * 512 + r.val; omega)

/-- The result. -/
theorem same3 : shapeCast S2x512x11008 (Q5 w (R3 (xJ x) (uJ u)) (R5 (xJ x) (uJ u)) (R8 (xJ x) (uJ u)) (R9 (xJ x) (uJ u))) shapeCasts_S1024x11008_S2x512x11008 = G3 (F := Ideal) x w u := by
  funext i
  idx_vars i
  refine (cast3 _ i0 i1 i2).trans (Eq.trans ?_ (Cert.ReferenceIdeal.Hand.G3_at x w u i0 i1 i2).symm)
  refine (out6_at (wcol w (i2.val / 256) (by omega)) _ _ (R3_at (xJ x) (uJ u)) _ _ _ (gK (xJ x) (uJ u) (rowJ i0 i1)) (rowJ i0 i1) ⟨i2.val % 256, Nat.mod_lt _ (by omega)⟩
    (fun k => R5_at _ _ _ k) (R8_at _ _ _ 0) (R9_at _ _ _ 0)).trans ?_
  exact congrArg₂ prod (gK_eq x u i0 i1) (fB_eq x w u i2)
/-- The smoothing factors. -/
theorem same4 : shapeCast S4096 (R2 (xJ x) (uJ u)) shapeCasts_S1x4096_S4096 = G4 (F := Ideal) x w u := by
  funext i
  idx_vars i
  refine Eq.trans ?_ ((s0_at (xJ x) (uJ u) i0).trans ((sK_eq x u i0).trans (Cert.ReferenceIdeal.Hand.G4_at x w u i0).symm))
  unfold R2
  generalize s0 (xJ x) (uJ u) = s
  pointwise
/-- The weight's codes. -/
theorem same5 : Q6 w (R3 (xJ x) (uJ u)) = G5 (F := Ideal) x w u := by
  funext i
  idx_vars i
  refine Eq.trans ?_ (Cert.ReferenceIdeal.Hand.G5_at x w u i0 i1).symm
  refine (out7_at (wcol w (i1.val / 256) (by omega)) _ _ (R3_at (xJ x) (uJ u)) i0 ⟨i1.val % 256, Nat.mod_lt _ (by omega)⟩).trans ?_
  exact congrArg (fun f => Ideal.fptosi 8 (wCode f i0)) (fB_eq x w u i1)
/-- The weight's scales. -/
theorem same6 : shapeCast S11008 (Q7 w (R3 (xJ x) (uJ u))) shapeCasts_S1x11008_S11008 = G6 (F := Ideal) x w u := by
  funext i
  idx_vars i
  have h : Q7 w (R3 (xJ x) (uJ u)) (ix2 0 i0) = G6 (F := Ideal) x w u (ix1 i0) := by
    refine Eq.trans ?_ (Cert.ReferenceIdeal.Hand.G6_at x w u i0).symm
    refine (out8_at (wcol w (i0.val / 256) (by omega)) _ _ (R3_at (xJ x) (uJ u)) ⟨i0.val % 256, Nat.mod_lt _ (by omega)⟩).trans ?_
    exact congrArg wScale (fB_eq x w u i0)
  refine Eq.trans ?_ h
  generalize Q7 w (R3 (xJ x) (uJ u)) = s
  pointwise
/-- The activation's codes. -/
theorem same7 : shapeCast S2x512x4096 (R4 (xJ x) (uJ u)) shapeCasts_S1024x4096_S2x512x4096 = G7 (F := Ideal) x w u := by
  funext i
  idx_vars i
  refine (cast7 _ i0 i1 i2).trans ((R4_at _ _ _ i2).trans (Eq.trans ?_ (Cert.ReferenceIdeal.Hand.G7_at x w u i0 i1 i2).symm))
  rw [gK_eq]
/-- The activation's scales. -/
theorem same8 : shapeCast S2x512 (R6 (xJ x) (uJ u)) shapeCasts_S8x128_S2x512 = G8 (F := Ideal) x w u := by
  funext i
  idx_vars i
  refine (cast8 (e := .f32) _ i0 i1).trans ((R6_at _ _ _ _).trans (Eq.trans ?_ (Cert.ReferenceIdeal.Hand.G8_at x w u i0 i1).symm))
  rw [rowOf_eq, gK_eq]
/-- The activation's zero points. -/
theorem same9 : shapeCast S2x512 (R7 (xJ x) (uJ u)) shapeCasts_S8x128_S2x512 = G9 (F := Ideal) x w u := by
  funext i
  idx_vars i
  refine (cast8 (e := .i32) _ i0 i1).trans ((R7_at _ _ _ _).trans (Eq.trans ?_ (Cert.ReferenceIdeal.Hand.G9_at x w u i0 i1).symm))
  rw [rowOf_eq, gK_eq]

end Cert.KernelIdeal.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KRun
public import proofs.«01_k».proof.Proof.KernelFrame
public import proofs.«01_k».proof.Proof.Ref
public import proofs.«01_k».proof.Proof.Same

@[expose] public section

noncomputable section

namespace Cert.Proof

open Idealize.ShloMosaic Idealize.ShloMosaic.TcCoe Idealize.SL.Sem
open Cert.KernelIdeal Cert.KernelIdeal.Hand
open Cert.ReferenceIdeal.Hand (G3 G4 G5 G6 G7 G8 G9)

/-- The kernel's run: each result is the reference's function of the arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v4) = G3 (F := Ideal) (m ((c : Thread nD τ).loc main_arg0)) (m ((c : Thread nD τ).loc main_arg1)) (m ((c : Thread nD τ).loc main_arg2))
      ∧ r.2.mem ((c : Thread nD τ).loc main_v5) = G4 (F := Ideal) (m ((c : Thread nD τ).loc main_arg0)) (m ((c : Thread nD τ).loc main_arg1)) (m ((c : Thread nD τ).loc main_arg2))
      ∧ r.2.mem ((c : Thread nD τ).loc main_v3_1) = G5 (F := Ideal) (m ((c : Thread nD τ).loc main_arg0)) (m ((c : Thread nD τ).loc main_arg1)) (m ((c : Thread nD τ).loc main_arg2))
      ∧ r.2.mem ((c : Thread nD τ).loc main_v6) = G6 (F := Ideal) (m ((c : Thread nD τ).loc main_arg0)) (m ((c : Thread nD τ).loc main_arg1)) (m ((c : Thread nD τ).loc main_arg2))
      ∧ r.2.mem ((c : Thread nD τ).loc main_v7) = G7 (F := Ideal) (m ((c : Thread nD τ).loc main_arg0)) (m ((c : Thread nD τ).loc main_arg1)) (m ((c : Thread nD τ).loc main_arg2))
      ∧ r.2.mem ((c : Thread nD τ).loc main_v8) = G8 (F := Ideal) (m ((c : Thread nD τ).loc main_arg0)) (m ((c : Thread nD τ).loc main_arg1)) (m ((c : Thread nD τ).loc main_arg2))
      ∧ r.2.mem ((c : Thread nD τ).loc main_v9) = G9 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run (defs (F := Ideal)) _ _).mono (fun r h c =>
    ⟨(h.1 c _ (mem_uc main_v4 (by decide))).trans ((E_v4 m ρ c).trans (same3 _ _ _)),
     (h.1 c _ (mem_uc main_v5 (by decide))).trans ((E_v5 m ρ c).trans (same4 _ _ _)),
     (h.1 c _ (mem_uc main_v3_1 (by decide))).trans ((E_v31 m ρ c).trans (same5 _ _ _)),
     (h.1 c _ (mem_uc main_v6 (by decide))).trans ((E_v6 m ρ c).trans (same6 _ _ _)),
     (h.1 c _ (mem_uc main_v7 (by decide))).trans ((E_v7 m ρ c).trans (same7 _ _ _)),
     (h.1 c _ (mem_uc main_v8 (by decide))).trans ((E_v8 m ρ c).trans (same8 _ _ _)),
     (h.1 c _ (mem_uc main_v9 (by decide))).trans ((E_v9 m ρ c).trans (same9 _ _ _)),
     (h.1 c _ (mem_uc main_arg0 (by decide))).trans (W4_main_arg0 m ρ c),
     (h.1 c _ (mem_uc main_arg1 (by decide))).trans (W4_main_arg1 m ρ c),
     (h.1 c _ (mem_uc main_arg2 (by decide))).trans (W4_main_arg2 m ρ c)⟩) (run_value m ρ)

/-- The reference's results at equal arguments. -/
theorem args_eq {A B C R : Type} (G : A → B → C → R) {a a' : A} {b b' : B} {c c' : C} (ha : a = a') (hb : b = b') (hc : c = c') : G a b c = G a' b' c' := by
  rw [ha, hb, hc]

theorem algebraic : Cert.algebraic_KernelIdeal_ReferenceIdeal (hKernelIdeal := Cert.KernelIdeal.Gen.facts) (hReferenceIdeal := Cert.ReferenceIdeal.Gen.facts) := by
  intro m g m' g' _ hm
  refine ⟨_, _, _, _, _, _, _, kernel_run m g, ?_⟩
  refine (θ_run (Cert.ReferenceIdeal.defs (F := Ideal)) _ _).mono (fun r h c => ?_) (Cert.ReferenceIdeal.Hand.run (F := Ideal) m' g')
  obtain ⟨h0, h1, h2, h3, h4, h5, h6, k0, k1, k2⟩ := h c
  obtain ⟨e0, e1, e2⟩ := hm c
  exact ⟨h0.trans (args_eq (G3 (F := Ideal)) e0 e1 e2), h1.trans (args_eq (G4 (F := Ideal)) e0 e1 e2), h2.trans (args_eq (G5 (F := Ideal)) e0 e1 e2),
    h3.trans (args_eq (G6 (F := Ideal)) e0 e1 e2), h4.trans (args_eq (G7 (F := Ideal)) e0 e1 e2), h5.trans (args_eq (G8 (F := Ideal)) e0 e1 e2),
    h6.trans (args_eq (G9 (F := Ideal)) e0 e1 e2), k0, k1, k2⟩

theorem claim : Cert.Claim :=
  ⟨Cert.Kernel.Gen.facts, Cert.KernelIdeal.Gen.facts, Cert.ReferenceIdeal.Gen.facts,
    Cert.Kernel.Hand.frame, fun m ρ _ => Cert.KernelIdeal.Hand.frame m ρ, fun m ρ _ => Cert.ReferenceIdeal.Gen.frame m ρ, trivial, algebraic⟩

end Cert.Proof

end
